-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S128x512 : Shape := ⟨2, ![128, 512]⟩
abbrev S512x512 : Shape := ⟨2, ![512, 512]⟩
abbrev S3x128x512 : Shape := ⟨3, ![3, 128, 512]⟩
abbrev S3 : Shape := ⟨1, ![3]⟩
abbrev S1x128x512 : Shape := ⟨3, ![1, 128, 512]⟩
abbrev S_ : Shape := ⟨0, ![]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S128x512, .f32⟩
  | .local _ .vmem, ⟨0, _⟩ => ⟨S512x256, .bf16⟩
  | .local _ .vmem, ⟨1, _⟩ => ⟨S256x512, .bf16⟩
  | .local _ .vmem, ⟨2, _⟩ => ⟨S128x512, .f32⟩
  | .local _ .vmem, ⟨3, _⟩ => ⟨S512x512, .f32⟩
  | .local _ .vmem, ⟨4, _⟩ => ⟨S3x128x512, .bf16⟩
  | .local _ .vmem, ⟨5, _⟩ => ⟨S3x128x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) (c1_i32_5 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11 : BitVec 32 := Scalar.addi v2 c1_i32_5
  let c4_i32_6 : BitVec 32 := 4#32
  let c0_i32 : BitVec 32 := 0#32
  let v12 : BitVec 1 := Scalar.cmpi .eq c4_i32_6 c0_i32
  let c1_i32_7 : BitVec 32 := 1#32
  let v13 : BitVec 32 := Scalar.select v12 c1_i32_7 c4_i32_6
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c128_i32 : BitVec 32 := 128#32
  let v22 : BitVec 32 := Scalar.muli v21 c128_i32
  let v23 : Index := Scalar.indexCast v22
  let c0_11 : Index := 0#32
  ![v23.toNat, 0]
def k0_dev1 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v66 : BitVec 32 := Scalar.addi v2 c1_i32_35
  let c4_i32_36 : BitVec 32 := 4#32
  let c0_i32_37 : BitVec 32 := 0#32
  let v67 : BitVec 1 := Scalar.cmpi .eq c4_i32_36 c0_i32_37
  let c1_i32_38 : BitVec 32 := 1#32
  let v68 : BitVec 32 := Scalar.select v67 c1_i32_38 c4_i32_36
  let v69 : BitVec 32 := Scalar.remsi v66 v68
  let c0_i32_40 : BitVec 32 := 0#32
  let v71 : BitVec 1 := Scalar.cmpi .slt v69 c0_i32_40
  let c0_i32_41 : BitVec 32 := 0#32
  let v72 : BitVec 1 := Scalar.cmpi .slt v68 c0_i32_41
  let v73 : BitVec 1 := Scalar.xori v71 v72
  let c0_i32_39 : BitVec 32 := 0#32
  let v70 : BitVec 1 := Scalar.cmpi .ne v69 c0_i32_39
  let v74 : BitVec 1 := Scalar.andi v73 v70
  let v75 : BitVec 32 := Scalar.addi v69 v68
  let v76 : BitVec 32 := Scalar.select v74 v75 v69
  let c1_i32_43 : BitVec 32 := 1#32
  let v77 : BitVec 32 := Scalar.muli v76 c1_i32_43
  let v78 : BitVec 32 := Scalar.addi c0_i32_44 v77
  v78.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v79 : BitVec 32 := Scalar.addi v2 c2_i32_45
  let c4_i32_46 : BitVec 32 := 4#32
  let c0_i32_47 : BitVec 32 := 0#32
  let v80 : BitVec 1 := Scalar.cmpi .eq c4_i32_46 c0_i32_47
  let c1_i32_48 : BitVec 32 := 1#32
  let v81 : BitVec 32 := Scalar.select v80 c1_i32_48 c4_i32_46
  let v82 : BitVec 32 := Scalar.remsi v79 v81
  let c0_i32_50 : BitVec 32 := 0#32
  let v84 : BitVec 1 := Scalar.cmpi .slt v82 c0_i32_50
  let c0_i32_51 : BitVec 32 := 0#32
  let v85 : BitVec 1 := Scalar.cmpi .slt v81 c0_i32_51
  let v86 : BitVec 1 := Scalar.xori v84 v85
  let c0_i32_49 : BitVec 32 := 0#32
  let v83 : BitVec 1 := Scalar.cmpi .ne v82 c0_i32_49
  let v87 : BitVec 1 := Scalar.andi v86 v83
  let v88 : BitVec 32 := Scalar.addi v82 v81
  let v89 : BitVec 32 := Scalar.select v87 v88 v82
  let c1_i32_53 : BitVec 32 := 1#32
  let v90 : BitVec 32 := Scalar.muli v89 c1_i32_53
  let v91 : BitVec 32 := Scalar.addi c0_i32_54 v90
  v91.toNat
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_55 : BitVec 32 := 3#32
  let v92 : BitVec 32 := Scalar.addi v2 c3_i32_55
  let c4_i32_56 : BitVec 32 := 4#32
  let c0_i32_57 : BitVec 32 := 0#32
  let v93 : BitVec 1 := Scalar.cmpi .eq c4_i32_56 c0_i32_57
  let c1_i32_58 : BitVec 32 := 1#32
  let v94 : BitVec 32 := Scalar.select v93 c1_i32_58 c4_i32_56
  let v95 : BitVec 32 := Scalar.remsi v92 v94
  let c0_i32_60 : BitVec 32 := 0#32
  let v97 : BitVec 1 := Scalar.cmpi .slt v95 c0_i32_60
  let c0_i32_61 : BitVec 32 := 0#32
  let v98 : BitVec 1 := Scalar.cmpi .slt v94 c0_i32_61
  let v99 : BitVec 1 := Scalar.xori v97 v98
  let c0_i32_59 : BitVec 32 := 0#32
  let v96 : BitVec 1 := Scalar.cmpi .ne v95 c0_i32_59
  let v100 : BitVec 1 := Scalar.andi v99 v96
  let v101 : BitVec 32 := Scalar.addi v95 v94
  let v102 : BitVec 32 := Scalar.select v100 v101 v95
  let c1_i32_63 : BitVec 32 := 1#32
  let v103 : BitVec 32 := Scalar.muli v102 c1_i32_63
  let v104 : BitVec 32 := Scalar.addi c0_i32_64 v103
  v104.toNat
def k0_dev4 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_66 : BitVec 32 := 2#32
  let v105 : BitVec 32 := Scalar.addi v2 c2_i32_66
  let c4_i32_67 : BitVec 32 := 4#32
  let c0_i32_68 : BitVec 32 := 0#32
  let v106 : BitVec 1 := Scalar.cmpi .eq c4_i32_67 c0_i32_68
  let c1_i32_69 : BitVec 32 := 1#32
  let v107 : BitVec 32 := Scalar.select v106 c1_i32_69 c4_i32_67
  let v108 : BitVec 32 := Scalar.remsi v105 v107
  let c0_i32_71 : BitVec 32 := 0#32
  let v110 : BitVec 1 := Scalar.cmpi .slt v108 c0_i32_71
  let c0_i32_72 : BitVec 32 := 0#32
  let v111 : BitVec 1 := Scalar.cmpi .slt v107 c0_i32_72
  let v112 : BitVec 1 := Scalar.xori v110 v111
  let c0_i32_70 : BitVec 32 := 0#32
  let v109 : BitVec 1 := Scalar.cmpi .ne v108 c0_i32_70
  let v113 : BitVec 1 := Scalar.andi v112 v109
  let v114 : BitVec 32 := Scalar.addi v108 v107
  let v115 : BitVec 32 := Scalar.select v113 v114 v108
  let c1_i32_77 : BitVec 32 := 1#32
  let v116 : BitVec 32 := Scalar.muli v115 c1_i32_77
  let v117 : BitVec 32 := Scalar.addi c0_i32_78 v116
  v117.toNat
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_83 : BitVec 32 := 1#32
  let v126 : BitVec 32 := Scalar.addi v2 c1_i32_83
  let c4_i32_84 : BitVec 32 := 4#32
  let c0_i32_85 : BitVec 32 := 0#32
  let v127 : BitVec 1 := Scalar.cmpi .eq c4_i32_84 c0_i32_85
  let c1_i32_86 : BitVec 32 := 1#32
  let v128 : BitVec 32 := Scalar.select v127 c1_i32_86 c4_i32_84
  let v129 : BitVec 32 := Scalar.remsi v126 v128
  let c0_i32_88 : BitVec 32 := 0#32
  let v131 : BitVec 1 := Scalar.cmpi .slt v129 c0_i32_88
  let c0_i32_89 : BitVec 32 := 0#32
  let v132 : BitVec 1 := Scalar.cmpi .slt v128 c0_i32_89
  let v133 : BitVec 1 := Scalar.xori v131 v132
  let c0_i32_87 : BitVec 32 := 0#32
  let v130 : BitVec 1 := Scalar.cmpi .ne v129 c0_i32_87
  let v134 : BitVec 1 := Scalar.andi v133 v130
  let v135 : BitVec 32 := Scalar.addi v129 v128
  let v136 : BitVec 32 := Scalar.select v134 v135 v129
  let c1_i32_94 : BitVec 32 := 1#32
  let v137 : BitVec 32 := Scalar.muli v136 c1_i32_94
  let v138 : BitVec 32 := Scalar.addi c0_i32_95 v137
  v138.toNat
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_100 : BitVec 32 := 3#32
  let v147 : BitVec 32 := Scalar.addi v2 c3_i32_100
  let c4_i32_101 : BitVec 32 := 4#32
  let c0_i32_102 : BitVec 32 := 0#32
  let v148 : BitVec 1 := Scalar.cmpi .eq c4_i32_101 c0_i32_102
  let c1_i32_103 : BitVec 32 := 1#32
  let v149 : BitVec 32 := Scalar.select v148 c1_i32_103 c4_i32_101
  let v150 : BitVec 32 := Scalar.remsi v147 v149
  let c0_i32_105 : BitVec 32 := 0#32
  let v152 : BitVec 1 := Scalar.cmpi .slt v150 c0_i32_105
  let c0_i32_106 : BitVec 32 := 0#32
  let v153 : BitVec 1 := Scalar.cmpi .slt v149 c0_i32_106
  let v154 : BitVec 1 := Scalar.xori v152 v153
  let c0_i32_104 : BitVec 32 := 0#32
  let v151 : BitVec 1 := Scalar.cmpi .ne v150 c0_i32_104
  let v155 : BitVec 1 := Scalar.andi v154 v151
  let v156 : BitVec 32 := Scalar.addi v150 v149
  let v157 : BitVec 32 := Scalar.select v155 v156 v150
  let c1_i32_111 : BitVec 32 := 1#32
  let v158 : BitVec 32 := Scalar.muli v157 c1_i32_111
  let v159 : BitVec 32 := Scalar.addi c0_i32_112 v158
  v159.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_117 : BitVec 32 := 128#32
  let v168 : BitVec 32 := Scalar.muli v2 c128_i32_117
  let v169 : Index := Scalar.indexCast v168
  let c0_118 : Index := 0#32
  ![v169.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x1024, .f32⟩
  | .hbm, ⟨3, _⟩ => ⟨S1024x512, .f32⟩
  | .hbm, ⟨4, _⟩ => ⟨S512x512, .f32⟩
  | .hbm, ⟨5, _⟩ => ⟨S512x512, .bf16⟩
  | .hbm, ⟨6, _⟩ => ⟨S512x512, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Cells.lean ====
/-
The exchange's places: the four devices around the ring, the three slots of the send and receive scratch
buffers, the semaphore cells, and what each slot holds.

Device `c` computes the product of its own column block of `A` with its own row block of `B` (a 512 x 512 partial
sum), keeps rows `128 c .. 128 c + 127` of it and sends the row block of each other device to that device. The
copy over distance `j + 1` (`j = 0, 1, 2`) leaves from send slot `j` and lands in receive slot `2 - j`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Rounds
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's own copy beside the exchange's, whose duties are named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices -/

set_option backward.proofsInPublic true in
/-- The device `j + 1` places after `c`. -/
def fwd (j : Fin 3) (c : Dev nD) : Dev nD := ⟨(c.val + j.val + 1) % 4, Nat.mod_lt _ (by decide)⟩
set_option backward.proofsInPublic true in
/-- The device `j + 1` places before `c`. -/
def bwd (j : Fin 3) (c : Dev nD) : Dev nD := ⟨(c.val + 3 - j.val) % 4, Nat.mod_lt _ (by decide)⟩

theorem bwd_fwd : ∀ (j : Fin 3) (c : Dev nD), bwd j (fwd j c) = c := by decide
theorem fwd_bwd : ∀ (j : Fin 3) (c : Dev nD), fwd j (bwd j c) = c := by decide
/-- Forward over distance `j + 1` and then over `3 - j` is once around. -/
theorem fwd_rev : ∀ (j : Fin 3) (c : Dev nD), fwd j.rev (fwd j c) = c := by decide
theorem bwd_eq_fwd_rev : ∀ (j : Fin 3) (c : Dev nD), bwd j c = fwd j.rev c := by decide

/-- Where the signals go: `(c, j)` names the signal of `c` over distance `j + 1`, its image the barrier duty that it pays. -/
def signalled : Dev nD × Fin 3 ≃ Dev nD × Fin 3 :=
  ⟨fun x => (fwd x.2 x.1, x.2), fun x => (bwd x.2 x.1, x.2), fun x => by simp only [bwd_fwd], fun x => by simp only [fwd_bwd]⟩
/-- Where the copies land: `(c, j)` names the copy of `c` over distance `j + 1`, its image the receive slot that it fills. -/
def landed : Dev nD × Fin 3 ≃ Dev nD × Fin 3 :=
  ⟨fun x => (fwd x.2 x.1, x.2.rev), fun x => (bwd x.2.rev x.1, x.2.rev),
    fun x => by simp only [Fin.rev_rev, bwd_fwd], fun x => by simp only [Fin.rev_rev, fwd_bwd]⟩

/-- The six devices that the body names: its signals go over distances 1, 2, 3, its copies over 2, 1, 3. -/
theorem dev1_eq : ∀ c : Dev nD, (⟨k0_dev1 c, k0_dev1_lt c⟩ : Dev nD) = fwd 0 c := by decide +kernel
theorem dev2_eq : ∀ c : Dev nD, (⟨k0_dev2 c, k0_dev2_lt c⟩ : Dev nD) = fwd 1 c := by decide +kernel
theorem dev3_eq : ∀ c : Dev nD, (⟨k0_dev3 c, k0_dev3_lt c⟩ : Dev nD) = fwd 2 c := by decide +kernel
theorem dev4_eq : ∀ c : Dev nD, (⟨k0_dev4 c, k0_dev4_lt c⟩ : Dev nD) = fwd 1 c := by decide +kernel
theorem dev5_eq : ∀ c : Dev nD, (⟨k0_dev5 c, k0_dev5_lt c⟩ : Dev nD) = fwd 0 c := by decide +kernel
theorem dev6_eq : ∀ c : Dev nD, (⟨k0_dev6 c, k0_dev6_lt c⟩ : Dev nD) = fwd 2 c := by decide +kernel

/-- The row block that the body sends over distance `j + 1` starts at the receiving device's rows. -/
theorem off1_eq : ∀ (j : Fin 3) (c : Dev nD), k0_off1 c (BitVec.ofNat 32 (1 + j.val)) = ![128 * (fwd j c).val, 0] := by decide +kernel

/-! ## The buffers and their slots -/

abbrev aM : Memref sig .tc .vmem S512x256 .bf16 := Memref.whole cc0_stg0_0
abbrev bM : Memref sig .tc .vmem S256x512 .bf16 := Memref.whole cc0_stg1_0
abbrev oM : Memref sig .tc .vmem S128x512 .f32 := Memref.whole cc0_stg2_0
abbrev pM : Memref sig .tc .vmem S512x512 .f32 := Memref.whole cc0_scratch0
abbrev sM : Memref sig .tc .vmem S3x128x512 .bf16 := Memref.whole cc0_scratch1
abbrev rM : Memref sig .tc .vmem S3x128x512 .bf16 := Memref.whole cc0_scratch2

theorem slot_inb : ∀ (k : Fin 3) (a : Fin 3), (![k.val, 0, 0] : Fin 3 → Nat) a + S1x128x512.size a ≤ S3x128x512.size a := by decide

/-- Slot `k` of a scratch buffer of three slots, -/
abbrev slotRect (k : Fin 3) : Rect S3x128x512 := Rect.unit (s := S3x128x512) ![k.val, 0, 0] S1x128x512.size (slot_inb k)
/-- and the memref a copy names it by. -/
abbrev slotM (M : Memref sig .tc .vmem S3x128x512 .bf16) (k : Fin 3) : Memref sig .tc .vmem S128x512 .bf16 :=
  (M.slice (slotRect k) (fun _ => rfl)).squeeze S128x512 squeezes_S1x128x512_S128x512

theorem row_inb : ∀ (t : Dev nD) (a : Fin 2), (![128 * t.val, 0] : Fin 2 → Nat) a + S128x512.size a ≤ S512x512.size a := by decide
/-- Device `t`'s rows of a 512 x 512 array. -/
abbrev rowRect (t : Dev nD) : Rect S512x512 := Rect.unit (s := S512x512) ![128 * t.val, 0] S128x512.size (row_inb t)

/-- Different slots have no element in common, -/
theorem slotRect_disjoint {k k' : Fin 3} (h : k ≠ k') : Disjoint (slotRect k).set (slotRect k').set := by
  refine LoadRect.disjoint_of_separated _ _ (0 : Fin 3) ?_
  have hv : k.val ≠ k'.val := fun e => h (Fin.ext e)
  show (1 = 0 ∨ k.val + 1 * (1 - 1) < k'.val) ∨ (1 = 0 ∨ k'.val + 1 * (1 - 1) < k.val)
  omega

/-- and every element lies in one of them. -/
theorem slotRect_cover (i : S3x128x512.Idx) : ∃ k : Fin 3, i ∈ (slotRect k).set := by
  refine ⟨⟨(i (0 : Fin 3)).val, (i (0 : Fin 3)).isLt⟩, Rect.mem_set_unit.mpr fun a => ?_⟩
  have h1 : (i (1 : Fin 3)).val < 0 + 128 := by rw [Nat.zero_add]; exact (i (1 : Fin 3)).isLt
  have h2 : (i (2 : Fin 3)).val < 0 + 512 := by rw [Nat.zero_add]; exact (i (2 : Fin 3)).isLt
  match a with
  | ⟨0, _⟩ => exact ⟨le_refl _, Nat.lt_succ_self _⟩
  | ⟨1, _⟩ => exact ⟨Nat.zero_le _, h1⟩
  | ⟨2, _⟩ => exact ⟨Nat.zero_le _, h2⟩

/-- A slot's elements, under the memref of the whole buffer. -/
abbrev slotSet (M : Memref sig .tc .vmem S3x128x512 .bf16) (k : Fin 3) : Finset M.view.ty.Idx := M.view.setOn (slotRect k).set

theorem slotM_set (M : Memref sig .tc .vmem S3x128x512 .bf16) (k : Fin 3) : (slotM M k).view.set = slotSet M k := by
  rw [Memref.set_view_squeeze]; exact View.set_slice _ _

theorem slotSet_disjoint (M : Memref sig .tc .vmem S3x128x512 .bf16) (k k' : Fin 3) (h : k ≠ k') : Disjoint (slotSet M k) (slotSet M k') :=
  View.disjoint_setOn _ (slotRect_disjoint h)

theorem slotSet_cover (M : Memref sig .tc .vmem S3x128x512 .bf16) (hM : M.view.set = Finset.univ) :
    (Finset.univ : Finset (Fin 3)).biUnion (slotSet M) = Finset.univ := by
  refine Finset.eq_univ_iff_forall.mpr fun i => ?_
  have hi : i ∈ M.view.set := hM ▸ Finset.mem_univ i
  obtain ⟨x, -, rfl⟩ := Finset.mem_map.mp hi
  obtain ⟨k, hk⟩ := slotRect_cover x
  exact Finset.mem_biUnion.mpr ⟨k, Finset.mem_univ _, (M.view.mem_setOn).mpr hk⟩

/-! ## The semaphore cells -/

set_option backward.proofsInPublic true in
/-- The semaphore that a copy out of send slot `j` credits when it has read the slot, -/
def sendS (j : Fin 3) : DmaSem sig := ⟨3 + j.val, by show 3 + j.val < 9; omega⟩
set_option backward.proofsInPublic true in
/-- the one that a copy into receive slot `k` credits when it has landed, -/
def recvS (k : Fin 3) : DmaSem sig := ⟨6 + k.val, by show 6 + k.val < 9; omega⟩
/-- and the barrier semaphore. -/
abbrev barS : Sem sig := (SemArray.scalar (sig.barrier 0 rfl) : Sems sig S_).sem

abbrev barCell (c : Dev nD) : GSem nD τ sig := ((c : Thread nD τ), .reg barS)
abbrev sendCell (c : Dev nD) (j : Fin 3) : GSem nD τ sig := ((c : Thread nD τ), .dma (sendS j))
abbrev recvCell (c : Dev nD) (k : Fin 3) : GSem nD τ sig := ((c : Thread nD τ), .dma (recvS k))

/-- A device's seven cells by name: the barrier's, the send cells (`false`), the receive cells (`true`). -/
abbrev Cid : Type := Option (Bool × Fin 3)
/-- The kernel's own six semaphores, -/
abbrev osem : Bool × Fin 3 → SemLoc sig := fun | (false, j) => .dma (sendS j) | (true, k) => .dma (recvS k)
/-- all seven, -/
abbrev csem : Cid → SemLoc sig := fun | none => .reg barS | some (false, j) => .dma (sendS j) | some (true, k) => .dma (recvS k)
/-- and every device's cells. -/
abbrev kcell (x : Dev nD × Cid) : GSem nD τ sig := ((x.1 : Thread nD τ), csem x.2)

/-- What one slot's copy credits. -/
abbrev N : ℕ := (slotM rM 0).view.dmaCredit
theorem N_pos : 0 < N := View.dmaCredit_pos _ (by decide)
theorem credit_recv (k : Fin 3) : (slotM rM k).view.dmaCredit = N := rfl
theorem credit_send (k : Fin 3) : (slotM sM k).view.dmaCredit = N := rfl

/-! ## Contents -/

variable (m : (ℓ : Loc nD τ sig) → Buf (Elt F) ℓ)

/-- Device `c`'s blocks of `A` and `B`, as staged. -/
def blkA (c : Dev nD) : (cc0_stg0_0 : Ref sig .tc).ty.Contents (Elt F) :=
  ((cfg0.win 0).blk t0_0).view.read (Elt F) (m ((c : Thread nD τ).loc main_arg0))
def blkB (c : Dev nD) : (cc0_stg1_0 : Ref sig .tc).ty.Contents (Elt F) :=
  ((cfg0.win 1).blk t0_0).view.read (Elt F) (m ((c : Thread nD τ).loc main_arg1))

/-- Device `c`'s partial product, -/
def part (c : Dev nD) : (cc0_scratch0 : Ref sig .tc).ty.Contents (Elt F) := k0_pay2 (blkA m c) (blkB m c)
/-- device `t`'s rows of it, -/
def rows (c t : Dev nD) : Vec F S128x512 .f32 := pM.view.readAt (Elt F) (rowRect t).toLoadRect (part m c)
/-- and those rows as they are sent. -/
def sent (c t : Dev nD) : Vec F S1x128x512 .bf16 := k0_pay3 (rows m c t)

/-- The result on device `c`: its own rows of its own product, and of those of the devices two, three and one
    places after it, added in this order. -/
def outAt (c : Dev nD) : (cc0_stg2_0 : Ref sig .tc).ty.Contents (Elt F) :=
  k0_pay1 (k0_pay7 (k0_pay6 (rows m c c) (sent m (fwd 1 c) c)) (sent m (fwd 2 c) c)) (sent m (fwd 0 c) c)

/-- A load of the row block that goes over distance `j + 1`, and of the device's own. -/
theorem read_rows (j : Fin 3) (c : Dev nD) (h) :
    pM.view.readAt (Elt F) (Rect.unit (s := S512x512) (k0_off1 c (BitVec.ofNat 32 (1 + j.val))) S128x512.size h).toLoadRect (part m c)
      = rows m c (fwd j c) :=
  View.readAt_unit_eq_of_eq _ h (off1_eq j c) _
theorem read_own (c : Dev nD) (h) :
    pM.view.readAt (Elt F) (Rect.unit (s := S512x512) (k0_off2 c) S128x512.size h).toLoadRect (part m c) = rows m c c :=
  View.readAt_unit_eq_of_eq _ h (k0_off2_eq c) _

/-! ## Slots written and read -/

omit [FloatOps F] in
/-- A slot read through a copy's memref is the slot as a load reads it, in the copy's shape. -/
theorem read_slot (M : Memref sig .tc .vmem S3x128x512 .bf16) (k : Fin 3) (f : M.view.ty.Contents (Elt F)) :
    (slotM M k).view.read (Elt F) f = shapeCast S128x512 (M.view.readAt (Elt F) (slotRect k).toLoadRect f) shapeCasts_S1x128x512_S128x512 := rfl

omit [FloatOps F] in
/-- A load of a slot just stored reads what was stored; -/
theorem read_stored (M : Memref sig .tc .vmem S3x128x512 .bf16) (k : Fin 3) (f : M.view.ty.Contents (Elt F)) (w : Vec F S1x128x512 .bf16) :
    M.view.readAt (Elt F) (slotRect k).toLoadRect ((M.access (slotRect k)).write (Elt F) f w Finset.univ) = w :=
  View.read_write_univ (v := M.view.slice (slotRect k)) f w

omit [FloatOps F] in
/-- a store to another slot is not seen. -/
theorem read_stored_ne (M : Memref sig .tc .vmem S3x128x512 .bf16) {k k' : Fin 3} (h : k ≠ k') (f : M.view.ty.Contents (Elt F)) (w : Vec F S1x128x512 .bf16) :
    M.view.readAt (Elt F) (slotRect k).toLoadRect ((M.access (slotRect k')).write (Elt F) f w Finset.univ)
      = M.view.readAt (Elt F) (slotRect k).toLoadRect f := by
  refine View.read_slice_write_slice_of_disjoint (v := M.view) (slotRect k) (slotRect k') f w Finset.univ ?_
  rw [View.setOn_univ, View.set_slice, View.set_slice]
  exact View.disjoint_setOn M.view (slotRect_disjoint h)

omit [FloatOps F] in
/-- A slot that a copy has landed in loads as the source slot did. -/
theorem read_landed (M M' : Memref sig .tc .vmem S3x128x512 .bf16) (k k' : Fin 3) (f : M.view.ty.Contents (Elt F)) (f' : M'.view.ty.Contents (Elt F)) :
    M.view.readAt (Elt F) (slotRect k).toLoadRect ((slotM M k).view.write (Elt F) f ((slotM M' k').view.read (Elt F) f') Finset.univ)
      = M'.view.readAt (Elt F) (slotRect k').toLoadRect f' := by
  have key (M : Memref sig .tc .vmem S3x128x512 .bf16) (k : Fin 3) (g : M.view.ty.Contents (Elt F)) :
      shapeCast S1x128x512 ((slotM M k).view.read (Elt F) g) shapeCasts_S128x512_S1x128x512 = M.view.readAt (Elt F) (slotRect k).toLoadRect g :=
    (congrArg (fun v => shapeCast S1x128x512 v shapeCasts_S128x512_S1x128x512) (read_slot M k g)).trans
      (shapeCast_shapeCast (M.view.readAt (Elt F) (slotRect k).toLoadRect g) shapeCasts_S1x128x512_S128x512 shapeCasts_S128x512_S1x128x512)
  refine (key M k _).symm.trans (Eq.trans ?_ (key M' k' f'))
  exact congrArg (fun v => shapeCast S1x128x512 v shapeCasts_S128x512_S1x128x512) (View.read_write_univ (v := (slotM M k).view) _ _)

/-! ## Slots held -/

/-- Slot `k` of device `c`'s send buffer at contents `f`, -/
def sPts (c : Dev nD) (k : Fin 3) (f : Buf (Elt F) ((c : Thread nD τ).loc cc0_scratch1)) : sProp 𝕄 :=
  ((c : Thread nD τ).loc cc0_scratch1) ↦[slotSet sM k]{fullShare} f
/-- and of its receive buffer. -/
def rPts (c : Dev nD) (k : Fin 3) (f : Buf (Elt F) ((c : Thread nD τ).loc cc0_scratch2)) : sProp 𝕄 :=
  ((c : Thread nD τ).loc cc0_scratch2) ↦[slotSet rM k]{fullShare} f

omit [FloatOps F] in
instance sPts_storable (c : Dev nD) (k : Fin 3) (f) : BI.Storable (upEmb : UEmb _ 𝕄) (sPts (F := F) c k f) := by unfold sPts; infer_instance
omit [FloatOps F] in
instance rPts_storable (c : Dev nD) (k : Fin 3) (f) : BI.Storable (upEmb : UEmb _ 𝕄) (rPts (F := F) c k f) := by unfold rPts; infer_instance

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A slot as a copy holds it. -/
theorem sPts_eq (c : Dev nD) (k : Fin 3) (f : Buf (Elt F) ((c : Thread nD τ).loc cc0_scratch1)) :
    sPts c k f = ((slotM sM k).view.loc (c : Thread nD τ) ↦[(slotM sM k).view.set]{fullShare} f : sProp 𝕄) := by
  unfold sPts; rw [slotM_set]
omit [FloatOps F] in
theorem rPts_eq (c : Dev nD) (k : Fin 3) (f : Buf (Elt F) ((c : Thread nD τ).loc cc0_scratch2)) :
    rPts c k f = ((slotM rM k).view.loc (c : Thread nD τ) ↦[(slotM rM k).view.set]{fullShare} f : sProp 𝕄) := by
  unfold rPts; rw [slotM_set]

omit [FloatOps F] in
/-- A whole send buffer is its three slots, -/
theorem s_split (c : Dev nD) (f : Buf (Elt F) ((c : Thread nD τ).loc cc0_scratch1)) :
    ((((c : Thread nD τ).loc cc0_scratch1) ↦{fullShare} f) : sProp 𝕄) = bigSep Finset.univ fun k => sPts c k f :=
  Ring.pointsTo_blocks (Ix := Unit) (Name := ℕ) (U := UU) (Lvl := ℕ) (q := fullShare) (ℓ := (c : Thread nD τ).loc cc0_scratch1) (slotSet sM) (slotSet_disjoint sM) (slotSet_cover sM (View.set_whole _)) f
omit [FloatOps F] in
theorem r_split (c : Dev nD) (f : Buf (Elt F) ((c : Thread nD τ).loc cc0_scratch2)) :
    ((((c : Thread nD τ).loc cc0_scratch2) ↦{fullShare} f) : sProp 𝕄) = bigSep Finset.univ fun k => rPts c k f :=
  Ring.pointsTo_blocks (Ix := Unit) (Name := ℕ) (U := UU) (Lvl := ℕ) (q := fullShare) (ℓ := (c : Thread nD τ).loc cc0_scratch2) (slotSet rM) (slotSet_disjoint rM) (slotSet_cover rM (View.set_whole _)) f

omit [FloatOps F] in
/-- and three slots at any contents make a whole buffer at some contents. -/
theorem s_join (c : Dev nD) (f₀ : Buf (Elt F) ((c : Thread nD τ).loc cc0_scratch1)) :
    bigSep Finset.univ (fun k => iprop(∃ f, sPts (F := F) c k f)) ⊢ (iprop(∃ f, ((c : Thread nD τ).loc cc0_scratch1) ↦{fullShare} f) : sProp 𝕄) :=
  Ring.pointsTo_blocks_join_exists (Ix := Unit) (Name := ℕ) (U := UU) (Lvl := ℕ) (q := fullShare) (ℓ := (c : Thread nD τ).loc cc0_scratch1) (slotSet sM) (slotSet_disjoint sM) (slotSet_cover sM (View.set_whole _)) f₀
omit [FloatOps F] in
theorem r_join (c : Dev nD) (f₀ : Buf (Elt F) ((c : Thread nD τ).loc cc0_scratch2)) :
    bigSep Finset.univ (fun k => iprop(∃ f, rPts (F := F) c k f)) ⊢ (iprop(∃ f, ((c : Thread nD τ).loc cc0_scratch2) ↦{fullShare} f) : sProp 𝕄) :=
  Ring.pointsTo_blocks_join_exists (Ix := Unit) (Name := ℕ) (U := UU) (Lvl := ℕ) (q := fullShare) (ℓ := (c : Thread nD τ).loc cc0_scratch2) (slotSet rM) (slotSet_disjoint rM) (slotSet_cover rM (View.set_whole _)) f₀

end Cert.Exchange

end
-- ==== Proof.Schedule.lean ====
/-
The exchange's schedule: per semaphore cell the payments that credit it, how much each pays and what it hands over;
what each device owes at the start and the order of the cells that makes every wait sound; and what a device
holds before and after its run of the body.

Every cell has a single round.

- The barrier cell of device `c` takes one unit from each of the other three devices. The device `j + 1` places before
  `c` pays duty `j` and hands over its own receive slot `j`, the slot that `c` then copies into.
- Send cell `j` of `c` takes the whole copy's credit once send slot `j` has been read, and gives the slot back.
- Receive cell `k` of `c` takes the copy's credit of the device `k + 1` places after `c`, and hands over receive slot `k`
  holding that device's rows for `c`.
-/
module

public import proofs.«01_k».proof.Proof.Cells

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Payments -/

/-- The slot that one of the exchange's six copy semaphores belongs to. -/
def slotOf (q : DmaSem sig) : Fin 3 := ⟨q.val % 3, Nat.mod_lt _ (by decide)⟩
theorem slotOf_send : ∀ j : Fin 3, slotOf (sendS j) = j := by decide
theorem slotOf_recv : ∀ k : Fin 3, slotOf (recvS k) = k := by decide

/-- Duty `j` of `c`'s barrier cell hands over receive slot `j` of the device `j + 1` places before `c`; -/
def barPay (c : Dev nD) (j : Fin 3) : sProp 𝕄 := iprop(∃ f, rPts (F := F) (bwd j c) j f)
/-- a send cell gives the slot back; -/
def sendPay (c : Dev nD) (j : Fin 3) : sProp 𝕄 := iprop(∃ f, sPts (F := F) c j f)
/-- a receive cell hands over the slot, holding the rows sent by the device `k + 1` places after `c`. -/
def recvPay (c : Dev nD) (k : Fin 3) : sProp 𝕄 :=
  iprop(∃ f, ⌜rM.view.readAt (Elt F) (slotRect k).toLoadRect f = sent m (fwd k c) c⌝ ∗ rPts c k f)

/-- One round: three duties on a barrier cell, one on a send or receive cell. -/
def plan : Rounds.Schedule (GSem nD τ sig) (Fin 3) 𝕄 where
  duties g r := if r = 0 ∧ g.1.2 = .tc then (match g.2 with | .reg _ => Finset.univ | .dma q => if 3 ≤ q.val then {0} else ∅) else ∅
  unitless _ := False
  amount g _ _ := match g.2 with | .reg _ => 1 | .dma _ => N
  payload g _ d := match g.2 with
    | .reg _ => barPay g.1.1 d
    | .dma q => if 6 ≤ q.val then recvPay m g.1.1 (slotOf q) else sendPay g.1.1 (slotOf q)
  amount_pos g _ _ _ := by
    rcases g with ⟨_, _ | _⟩
    · exact Nat.one_pos
    · exact N_pos

instance plan_payload_storable (g : GSem nD τ sig) (r : ℕ) (d : Fin 3) :
    BI.Storable (upEmb : UEmb _ 𝕄) ((plan (F := F) m).payload g r d) := by
  rcases g with ⟨t, _ | q⟩
  · show BI.Storable upEmb (barPay (F := F) t.1 d); unfold barPay; infer_instance
  · show BI.Storable upEmb (if 6 ≤ q.val then recvPay m t.1 (slotOf q) else sendPay t.1 (slotOf q))
    unfold recvPay sendPay; split <;> infer_instance

section Tables
variable (c : Dev nD) (j : Fin 3)

theorem duties_bar : (plan m).duties (barCell c) 0 = Finset.univ := by
  dsimp only [plan]; exact if_pos ⟨rfl, rfl⟩
theorem duties_send : (plan m).duties (sendCell c j) 0 = {0} := by
  dsimp only [plan]; exact (if_pos ⟨rfl, rfl⟩).trans (if_pos (show 3 ≤ 3 + j.val by omega))
theorem duties_recv : (plan m).duties (recvCell c j) 0 = {0} := by
  dsimp only [plan]; exact (if_pos ⟨rfl, rfl⟩).trans (if_pos (show 3 ≤ 6 + j.val by omega))
/-- No cell has a second round. -/
theorem duties_later (g : GSem nD τ sig) : ∀ r, 1 ≤ r → (plan m).duties g r = ∅ :=
  fun r hr => by dsimp only [plan]; exact if_neg fun h => by have := h.1; omega

theorem expect_bar : (plan m).expect (barCell c) 0 = 3 := by
  unfold Schedule.expect Schedule.amountOf; rw [duties_bar]; rfl
theorem expect_send : (plan m).expect (sendCell c j) 0 = N := by
  unfold Schedule.expect Schedule.amountOf; rw [duties_send, Finset.sum_singleton]; rfl
theorem expect_recv : (plan m).expect (recvCell c j) 0 = N := by
  unfold Schedule.expect Schedule.amountOf; rw [duties_recv, Finset.sum_singleton]; rfl

theorem payload_bar : (plan m).payload (barCell c) 0 j = barPay c j := rfl
theorem payload_send : (plan m).payload (sendCell c j) 0 0 = sendPay c j :=
  (if_neg (show ¬ 6 ≤ 3 + j.val by omega)).trans (by rw [slotOf_send])
theorem payload_recv : (plan m).payload (recvCell c j) 0 0 = recvPay m c j :=
  (if_pos (show 6 ≤ 6 + j.val by omega)).trans (by rw [slotOf_recv])

/-- What a whole round of a cell hands over. -/
theorem rest_bar : bigSep ((plan m).duties (barCell c) 0 \ ∅) (fun d => (plan m).payload (barCell c) 0 d) = iprop(barPay c 0 ∗ barPay c 1 ∗ barPay c 2) := by
  rw [Finset.sdiff_empty, duties_bar, bigSep_fin3]; rfl
theorem rest_send : bigSep ((plan m).duties (sendCell c j) 0 \ ∅) (fun d => (plan m).payload (sendCell c j) 0 d) = sendPay c j := by
  rw [Finset.sdiff_empty, duties_send, bigSep_singleton, payload_send]
theorem rest_recv : bigSep ((plan m).duties (recvCell c j) 0 \ ∅) (fun d => (plan m).payload (recvCell c j) 0 d) = recvPay m c j := by
  rw [Finset.sdiff_empty, duties_recv, bigSep_singleton, payload_recv]

end Tables

/-! ## What a device owes -/

/-- The copy over distance `j + 1` owes the landing's credit, -/
def dueR (c : Dev nD) (j : Fin 3) : CellTallies nD τ sig Unit := tallyAt (recvCell (fwd j c) j.rev) () N
/-- the signal over distance `j + 1` one unit. -/
def dueB (c : Dev nD) (j : Fin 3) : CellTallies nD τ sig Unit := tallyAt (barCell (fwd j c)) () 1

/-- The copies go out over distances 2, 1, 3, -/
def O₁ (c : Dev nD) : CellTallies nD τ sig Unit := 0 + dueR c 2 + dueR c 0 + dueR c 1
/-- after the signals over distances 1, 2, 3: in each sum the last due is paid first. -/
def O₀ (c : Dev nD) : CellTallies nD τ sig Unit := O₁ c + dueB c 2 + dueB c 1 + dueB c 0

def L (g : GSem nD τ sig) : Finset Unit := if g.1.2 = .tc then {()} else ∅
/-- Barrier cells at level 1, receive cells at level 2, every other cell (staging, send) at level 0. -/
def lv (g : GSem nD τ sig) (_ : Unit) : ℕ := match g.2 with | .reg _ => 1 | .dma q => if 6 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (k : Fin 3) (u : Unit) : lv (recvCell c k) u = 2 := if_pos (show 6 ≤ 6 + k.val by omega)

theorem tallyAt_pos {g g' : GSem nD τ sig} {n : ℕ} {u : Unit} (h : 0 < tallyAt g () n g' u) : g' = g := by
  rw [tallyAt_apply] at h
  by_contra hn
  rw [if_neg fun h' => hn h'.1] at h
  exact Nat.lt_irrefl 0 h

theorem O₁_pos {c : Dev nD} {g : GSem nD τ sig} {u : Unit} (h : 0 < O₁ c g u) : ∃ d k, g = recvCell d k := by
  simp only [O₁, zero_add, Pi.add_apply, Finsupp.add_apply] at h
  rcases (by omega : 0 < dueR c 2 g u ∨ 0 < dueR c 0 g u ∨ 0 < dueR c 1 g u) with h | h | h <;> exact ⟨_, _, tallyAt_pos h⟩

theorem O₀_pos {c : Dev nD} {g : GSem nD τ sig} {u : Unit} (h : 0 < O₀ c g u) : (∃ d k, g = recvCell d k) ∨ ∃ d, g = barCell d := by
  simp only [O₀, Pi.add_apply, Finsupp.add_apply] at h
  rcases (by omega : 0 < O₁ c g u ∨ 0 < dueB c 2 g u ∨ 0 < dueB c 1 g u ∨ 0 < dueB c 0 g u) with h | h | h | h
  · exact .inl (O₁_pos h)
  all_goals exact .inr ⟨_, tallyAt_pos h⟩

omit [FloatOps F] in
/-- A wait is sound when everything owed lies above the cell waited on. -/
theorem mayWait_of (c : Dev nD) (sm : SemLoc sig) (O : CellTallies nD τ sig Unit) (n : ℕ) (hn : lv ((c : Thread nD τ), sm) () ≤ n)
    (h : ∀ g u, 0 < O g u → L g = {()} ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [(h g u hg).1]; exact Finset.mem_singleton_self _)
    (fun p hp => by rw [Finset.mem_singleton.mp hp]; exact hn)
    (fun g u hg => (h g u hg).2)

omit [FloatOps F] in
/-- The staging waits, before and after the body, -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine mayWait_of c (.dma q) _ 0 (le_of_eq (if_neg (by omega))) fun g u hg => ?_
    rcases O₀_pos hg with ⟨d, k, rfl⟩ | ⟨d, rfl⟩
    · exact ⟨L_tc _ _, by rw [lv_recv]; decide⟩
    · exact ⟨L_tc _ _, by rw [lv_bar]; decide⟩
  · rw [MayWait_zero]; iintro -; iempintro

omit [FloatOps F] in
/-- and the barrier wait, at which a device owes its three copies. -/
theorem mayWait_bar (c : Dev nD) : (levAts L lv : sProp 𝕄) ⊢ MayWait (c : Thread nD τ) (.reg barS) () (O₁ c) := by
  refine mayWait_of c (.reg barS) _ 1 le_rfl fun g u hg => ?_
  obtain ⟨d, k, rfl⟩ := O₁_pos hg
  exact ⟨L_tc _ _, by rw [lv_recv]; decide⟩

/-! ## What a device holds -/

/-- All cells' invariants and that every cell has reached its round: the same for every device. -/
def records (K : Dev nD × Cid → ℕ) : sProp 𝕄 :=
  iprop((bigSep Finset.univ fun x : Dev nD × Cid => cellInv ER (plan m) (K x) (kcell x))
    ∗ bigSep Finset.univ fun x : Dev nD × Cid => reached ER (kcell x) 0)

instance records_persistent (K : Dev nD × Cid → ℕ) : BI.Persistent (records m K) := by unfold records; infer_instance

theorem inv_at (K : Dev nD × Cid → ℕ) (x : Dev nD × Cid) : records m K ⊢ cellInv ER (plan m) (K x) (kcell x) := by
  have h : (bigSep Finset.univ fun x : Dev nD × Cid => (cellInv ER (plan m) (K x) (kcell x) : sProp 𝕄)) ⊢ cellInv ER (plan m) (K x) (kcell x) :=
    bigSep_elim (Finset.mem_univ x)
  unfold records; iintro ⟨H, -⟩
  iapply h; iexact H
theorem reached_at (K : Dev nD × Cid → ℕ) (x : Dev nD × Cid) : records m K ⊢ reached ER (kcell x) 0 := by
  have h : (bigSep Finset.univ fun x : Dev nD × Cid => (reached ER (kcell x) 0 : sProp 𝕄)) ⊢ reached ER (kcell x) 0 :=
    bigSep_elim (Finset.mem_univ x)
  unfold records; iintro ⟨-, H⟩
  iapply h; iexact H

omit [FloatOps F] in
/-- A device's seven cells one by one: the barrier's, the send cells, the receive cells. -/
theorem bigSep_cid (Φ : Cid → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)]
    (by decide) (by decide) Φ

/-- A device's positions, at round `r` of each of its cells, -/
def posAt (c : Dev nD) (r : ℕ) : sProp 𝕄 := bigSep Finset.univ fun x : Cid => atPos ER (kcell (c, x)) r ∅ 0
/-- the tokens it pays with over distance `j + 1`: the signal's, the landing's, the sending's, -/
def toks (c : Dev nD) (j : Fin 3) : sProp 𝕄 :=
  iprop(dutyTok ER (barCell (fwd j c)) 0 j ∗ dutyTok ER (recvCell (fwd j c) j.rev) 0 0 ∗ dutyTok ER (sendCell c j) 0 0)
/-- and all its ghost state at the start. -/
def ghost (K : Dev nD × Cid → ℕ) (c : Dev nD) : sProp 𝕄 := iprop(records m K ∗ posAt c 0 ∗ bigSep Finset.univ (toks (F := F) c))

/-- The credit a device waits with: its barrier's three units and its three landings. -/
def creds (c : Dev nD) : sProp 𝕄 :=
  iprop(cred (tallyAt (barCell c) () 3) ∗ bigSep Finset.univ fun k : Fin 3 => cred (tallyAt (recvCell c k) () N))

def start (c : Dev nD) : sProp 𝕄 := iprop((∃ K, ghost m K c) ∗ creds (F := F) c ∗ levAts L lv)

/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Before the body, -/
def Φ₀ (c : Dev nD) : sProp 𝕄 := iprop(start m c ∗ scratch (F := F) c)
/-- and after it: the seven cells closed, their counters at zero. -/
def Φ₁ (c : Dev nD) : sProp 𝕄 := iprop(scratch (F := F) c ∗ bigSep Finset.univ fun x : Cid => semVal (kcell (c, x)) 0)

/-- The run's data for the staging pipeline: the arrays as they are, the staged blocks, and the result. -/
def dats (_ : Fin 1) (c : Dev nD) : Pipeline.Dat τ (Elt F) Unit ℕ UU ℕ cfg0 c where
  A w := m ((cfg0.win w).arr.view.loc (c : Thread nD τ))
  after w _ := match w with
    | ⟨0, _⟩ => blkA m c
    | ⟨1, _⟩ => blkB m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Exchange

end
-- ==== Proof.Body.lean ====
/-
The body run once, at a device `c` of any position: one rule per effect in program order. First the three kinds of
step that the exchange adds, each stated once for every distance or cell: a signal, a copy, a wait for a copy.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ)

/-! ## The steps -/

/-- The signal over distance `j + 1` hands over receive slot `j`. -/
theorem wp_signal_to (c n : Dev nD) (j : Fin 3) (hn : n = fwd j c) (O : CellTallies nD τ sig Unit) (W : Waits sig Unit)
    {α : Type} {Q : α → sProp 𝕄} {k : PUnit → Prog (TpuEff nD τ sig (Elt F) Λ₀ .tc) α} :
    iprop(records m K ∗ owes (c : Thread nD τ) (O + dueB c j) W ∗ dutyTok ER (barCell (fwd j c)) 0 j ∗ (∃ f, rPts (F := F) c j f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, .tc) barS (1#32).toInt) k) Q) := by
  subst hn
  iintro ⟨#HR, HO, Ht, Hf⟩
  iapply (Rounds.wp_signal 𝒱₀ ER (plan m) (c : Thread nD τ) none (dst := (fwd j c : Thread nD τ)) (κ := K (fwd j c, none))
      (d := j) (by rw [duties_bar]; exact Finset.mem_univ _) (show (1 : ℕ) = _ by decide) () O rfl)
  isplitr; · iapply (inv_at m K (fwd j c, none)); iexact HR
  isplitl [HO]; · iexact HO
  isplitl [Ht]; · iexact Ht
  isplitl [Hf]
  · rw [payload_bar]; unfold barPay; rw [bwd_fwd]; iexact Hf
  iapply (reached_at m K (fwd j c, none)); iexact HR

/-- The copy over distance `j + 1`, out of send slot `j` holding the rows for the device there, into its receive slot. -/
theorem wp_copy_to (c n : Dev nD) (j : Fin 3) (hn : n = fwd j c)
    {src : Memref sig .tc .vmem S128x512 .bf16} {dst : Memref sig (Dev.tc n : Thread nD τ).2.kind .vmem S128x512 .bf16}
    (hs : src = slotM sM j) (hd : dst = slotM rM j.rev)
    {sS sR : DmaSem sig} (hsS : sS = sendS j) (hsR : sR = recvS j.rev)
    {hsc : dst.view.ref.isScScratch = false} {hsrc : src.view.WordExact} {hdst : dst.view.WordExact}
    {hsem : DmaTarget.Typed .vmem (.dma sR) (.remote (Dev.tc n : Thread nD τ) dst (.dma sS) hsc)}
    (f : Buf (Elt F) ((c : Thread nD τ).loc cc0_scratch1)) (fd : Buf (Elt F) ((fwd j c : Thread nD τ).loc cc0_scratch2))
    (hf : sM.view.readAt (Elt F) (slotRect j).toLoadRect f = sent m c (fwd j c))
    (O : CellTallies nD τ sig Unit) (W : Waits sig Unit)
    {α : Type} {Q : α → sProp 𝕄} {k : PUnit → Prog (TpuEff nD τ sig (Elt F) Λ₀ .tc) α} :
    iprop(records m K ∗ sPts c j f ∗ rPts (fwd j c) j.rev fd ∗ owes (c : Thread nD τ) (O + dueR c j) W
        ∗ dutyTok ER (sendCell c j) 0 0 ∗ dutyTok ER (recvCell (fwd j c) j.rev) 0 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hs hd hsS hsR
  rw [sPts_eq, rPts_eq]
  iintro ⟨#HR, Hs, Hd, HO, Ht₁, Ht₂⟩
  iapply (Rounds.wp_send_pointsTo 𝒱₀ ER (plan m) (c : Thread nD τ) none (c' := (fwd j c : Thread nD τ))
    (src := slotM sM j) (dst := slotM rM j.rev) (sS := .dma (sendS j)) (sem := .dma (recvS j.rev))
    (κ₁ := K (c, some (false, j))) (κ₂ := K (fwd j c, some (true, j.rev)))
    (r₁ := 0) (r₂ := 0) (d₁ := 0) (d₂ := 0) (fs := f) (fd := fd)
    (by rw [duties_send]; exact Finset.mem_singleton_self _) (by rw [duties_recv]; exact Finset.mem_singleton_self _)
    () () N rfl rfl rfl O rfl (W := W)
    (by rw [payload_send]; unfold sendPay; rw [← sPts_eq]; iintro H; iexists f; iexact H)
    (by
      rw [payload_recv]; unfold recvPay; rw [← rPts_eq, fwd_rev]
      iintro H; iexists _
      isplitr; · ipureintro; exact (read_landed rM sM j.rev j fd f).trans hf
      iexact H))
  isplitr; · iapply (inv_at m K (c, some (false, j))); iexact HR
  isplitr; · iapply (inv_at m K (fwd j c, some (true, j.rev))); iexact HR
  isplitl [Hs]; · iexact Hs
  isplitl [Hd]; · iexact Hd
  isplitl [HO]; · iexact HO
  isplitl [Ht₁]; · iexact Ht₁
  isplitr; · iapply (reached_at m K (c, some (false, j))); iexact HR
  isplitl [Ht₂]; · iexact Ht₂
  iapply (reached_at m K (fwd j c, some (true, j.rev))); iexact HR

/-- What a send or receive cell hands over. -/
def ownPay (c : Dev nD) : Bool × Fin 3 → sProp 𝕄
  | (false, j) => sendPay c j
  | (true, k) => recvPay m c k

/-- A wait for a copy, with nothing owed: the whole round of the cell. -/
theorem wp_wait_copy (c : Dev nD) (y : Bool × Fin 3) {q : DmaSem sig} (hq : osem y = .dma q) (W : Waits sig Unit)
    {src dst : Memref sig .tc .vmem S128x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records m K ∗ cred (tallyAt ((c : Thread nD τ), osem y) () N) ∗ owes (c : Thread nD τ) 0 W ∗ atPos ER (kcell (c, some y)) 0 ∅ 0)
      ⊢ iprop(((owes (c : Thread nD τ) 0 (insert (osem y, ()) W) ∗ atPos ER (kcell (c, some y)) 1 ∅ 0 ∗ ownPay m c y)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hc : kcell (c, some y) = ((c : Thread nD τ), SemLoc.dma q) := by rw [← hq]; obtain ⟨_ | _, _⟩ := y <;> rfl
  have he : (plan m).expect ((c : Thread nD τ), SemLoc.dma q) 0 = N := by
    rw [← hq]; obtain ⟨_ | _, i⟩ := y
    · exact expect_send m c i
    · exact expect_recv m c i
  have hr : bigSep ((plan m).duties ((c : Thread nD τ), SemLoc.dma q) 0 \ ∅) (fun d => (plan m).payload ((c : Thread nD τ), SemLoc.dma q) 0 d) = ownPay m c y := by
    rw [← hq]; obtain ⟨_ | _, i⟩ := y
    · exact rest_send m c i
    · exact rest_recv m c i
  have hi := inv_at m K (c, some y)
  rw [hc] at hi ⊢; rw [hq]
  iintro ⟨#HR, Hc, HO, Hat⟩ Hk
  iapply (Rounds.wp_wait_rest_token 𝒱₀ ER (plan m) (c : Thread nD τ) none (κ := K (c, some y))
      (wpE_waitDma2_eq 𝒱₀ (c : Thread nD τ) none Set.univ) (Set.mem_univ _) () (O := 0) (W := W) (R := 0) (m := 0) (T := ∅)
      (by rw [Nat.zero_add, hN, he])) $$ [Hc HO Hat]
  · isplitr; · iapply hi; iexact HR
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq hr); iexact Hpay

/-- Past their round, a device's seven cells close: their counters are at zero. -/
theorem close_all (c : Dev nD) : iprop(records m K ∗ posAt c 1) ⊢ (|={Set.univ}=> bigSep Finset.univ fun x : Cid => semVal (kcell (c, x)) 0 : sProp 𝕄) := by
  have h (x : Cid) : iprop(records m K ∗ atPos ER (kcell (c, x)) 1 ∅ 0) ⊢ (|={Set.univ}=> semVal (kcell (c, x)) 0 : sProp 𝕄) := by
    iintro ⟨#HR, Hat⟩
    iapply (Rounds.cell_close ER (plan m) (Set.mem_univ (K (c, x))) (fun h => h) (R := 1) (duties_later m (kcell (c, x))))
    isplitr; · iapply (inv_at m K (c, x)); iexact HR
    iexact Hat
  unfold posAt
  refine (sep_mono_left (BI.bigSep_of_persistent (Finset.univ : Finset Cid) (records m K))).trans ?_
  rw [← bigSep_sep']
  exact (bigSep_mono fun x _ => h x).trans (bigSep_fupd _ _)

end Cert.Exchange

end
-- ==== Proof.Steps.lean ====
/-
The body's own steps, in program order, at a device `c` of any position.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ)

/-! ## Whole buffers -/

theorem hz : (![0, 0] : Fin 2 → Nat) = fun _ => 0 := funext fun a => by fin_cases a <;> rfl

omit [FloatOps F] in
theorem read_a (f : (cc0_stg0_0 : Ref sig .tc).ty.Contents (Elt F)) :
    aM.view.readAt (Elt F) (Rect.unit (s := S512x256) ![0, 0] S512x256.size inb_S512x256_S512x256_0_0).toLoadRect f = f :=
  Memref.readAt_unit_zero (Elt F) cc0_stg0_0 hz _ f
omit [FloatOps F] in
theorem read_b (f : (cc0_stg1_0 : Ref sig .tc).ty.Contents (Elt F)) :
    bM.view.readAt (Elt F) (Rect.unit (s := S256x512) ![0, 0] S256x512.size inb_S256x512_S256x512_0_0).toLoadRect f = f :=
  Memref.readAt_unit_zero (Elt F) cc0_stg1_0 hz _ f
omit [FloatOps F] in
theorem write_part (f w : (cc0_scratch0 : Ref sig .tc).ty.Contents (Elt F)) :
    (pM.access (Rect.unit (s := S512x512) ![0, 0] S512x512.size inb_S512x512_S512x512_0_0)).write (Elt F) f w Finset.univ = w :=
  Memref.write_access_unit_zero_univ (Elt F) cc0_scratch0 hz _ f w
omit [FloatOps F] in
theorem write_out (f w : (cc0_stg2_0 : Ref sig .tc).ty.Contents (Elt F)) :
    (oM.access (Rect.unit (s := S128x512) ![0, 0] S128x512.size inb_S128x512_S128x512_0_0)).write (Elt F) f w Finset.univ = w :=
  Memref.write_access_unit_zero_univ (Elt F) cc0_stg2_0 hz _ f w

/-! ## The send buffer after its three stores -/

omit [FloatOps F] in
/-- The three slots stored one after another hold what was stored. -/
theorem stored3 (f : sM.view.ty.Contents (Elt F)) (w : Fin 3 → Vec F S1x128x512 .bf16) (j : Fin 3) :
    sM.view.readAt (Elt F) (slotRect j).toLoadRect
      ((sM.access (slotRect 2)).write (Elt F) ((sM.access (slotRect 1)).write (Elt F) ((sM.access (slotRect 0)).write (Elt F) f (w 0) Finset.univ) (w 1) Finset.univ) (w 2) Finset.univ)
      = w j := by
  fin_cases j
  · exact (read_stored_ne sM (by decide) _ _).trans ((read_stored_ne sM (by decide) _ _).trans (read_stored sM 0 _ _))
  · exact (read_stored_ne sM (by decide) _ _).trans (read_stored sM 1 _ _)
  · exact read_stored sM 2 _ _

omit [FloatOps F] in
/-- A send buffer stored slot by slot, held as its three slots. -/
theorem send_filled (c : Dev nD) (f : Buf (Elt F) ((c : Thread nD τ).loc cc0_scratch1)) (w₀ w₁ w₂ : Vec F S1x128x512 .bf16) :
    ((((c : Thread nD τ).loc cc0_scratch1) ↦{fullShare}
        ((sM.access (slotRect 2)).write (Elt F) ((sM.access (slotRect 1)).write (Elt F) ((sM.access (slotRect 0)).write (Elt F) f w₀ Finset.univ) w₁ Finset.univ) w₂ Finset.univ)) : sProp 𝕄)
      ⊢ iprop(∃ s, ⌜∀ j, sM.view.readAt (Elt F) (slotRect j).toLoadRect s = (![w₀, w₁, w₂] : Fin 3 → _) j⌝
          ∗ sPts c 0 s ∗ sPts c 1 s ∗ sPts c 2 s) := by
  rw [s_split, bigSep_fin3]
  iintro H
  iexists _
  isplitr
  · ipureintro; exact stored3 f ![w₀, w₁, w₂]
  iexact H

/-- The slot that the device over distance `j + 1` handed over. -/
theorem barPay_rev (c : Dev nD) (j : Fin 3) : barPay (F := F) c j.rev = iprop(∃ f, rPts (F := F) (fwd j c) j.rev f) := by
  unfold barPay; rw [bwd_eq_fwd_rev, Fin.rev_rev]

/-- A send slot that comes back. -/
theorem ownPay_send (c : Dev nD) (j : Fin 3) : ownPay m c (false, j) = iprop(∃ f, sPts (F := F) c j f) := rfl
/-- A landed slot, as a load takes it. -/
theorem ownPay_recv (c : Dev nD) (k : Fin 3) : ownPay m c (true, k)
    = iprop(∃ f, ⌜rM.view.readAt (Elt F) (slotRect k).toLoadRect f = sent m (fwd k c) c⌝ ∗ (((c : Thread nD τ).loc cc0_scratch2) ↦[slotSet rM k]{fullShare} f)) := rfl

/-! ## The body -/

/-- A buffer held whole at contents `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop((ghost m K c ∗ creds (F := F) c ∗ levAts L lv ∗ scratch (F := F) c)
    ∗ (dats m 0 c).owesAt () t0_0.castSucc
    ∗ (∃ d, held c cc0_stg0_0 ((dats m 0 c).before (0 : Fin 3) t0_0 d))
    ∗ (∃ d, held c cc0_stg1_0 ((dats m 0 c).before (1 : Fin 3) t0_0 d))
    ∗ (∃ d, held c cc0_stg2_0 ((dats m 0 c).before (2 : Fin 3) t0_0 d)))

def bodyPost (c : Dev nD) : sProp 𝕄 :=
  iprop(Φ₁ (F := F) c ∗ (dats m 0 c).owesAt () t0_0.succ
    ∗ held c cc0_stg0_0 (blkA m c) ∗ held c cc0_stg1_0 (blkB m c) ∗ held c cc0_stg2_0 (outAt m c))

set_option maxHeartbeats 3200000 in
set_option maxRecDepth 8000 in
/-- The body, one rule per effect in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, Prog.bind_assoc, wp_deviceId]
  unfold bodyPre ghost creds scratch posAt
  rw [bigSep_cid, bigSep_fin3, bigSep_fin3]
  unfold toks
  iintro ⟨⟨⟨⟨#HR, ⟨HaB, HaS0, HaS1, HaS2, HaR0, HaR1, HaR2⟩, ⟨HtB0, HtR0, HtS0⟩, ⟨HtB1, HtR1, HtS1⟩, HtB2, HtR2, HtS2⟩,
      ⟨HcB, HcR0, HcR1, HcR2⟩, #Hlev, ⟨%p0, Hp⟩, ⟨%s0, Hs⟩, ⟨%r0, Hr⟩⟩,
    Ho, ⟨%d0, %g0, %hg0, Ha⟩, ⟨%d1, %g1, %hg1, Hb⟩, ⟨%d2, %g2, %hg2, Hout⟩⟩, Hk⟩
  have ha : g0 = blkA m c := by rw [hg0]; unfold Pipeline.Dat.before; rw [if_pos (fetch0_0 t0_0)]; rfl
  have hb : g1 = blkB m c := by rw [hg1]; unfold Pipeline.Dat.before; rw [if_pos (fetch0_1 t0_0)]; rfl
  subst ha hb
  unfold Pipeline.Dat.owesAt Pipeline.owesWithin
  icases Ho with ⟨%W, %hW, HO⟩
  rw [show (dats m 0 c).owed t0_0.castSucc = O₀ c from rfl]
  -- the product, into the partial-sum buffer
  iapply (wp_load 𝒱₀ (c : Thread nD τ) none Set.univ (m := aM) (Finset.subset_univ _)) $$ Ha; iintro Ha
  rw [read_a]
  iapply (wp_load 𝒱₀ (c : Thread nD τ) none Set.univ (m := bM) (Finset.subset_univ _)) $$ Hb; iintro Hb
  rw [read_b]
  iapply (wp_load 𝒱₀ (c : Thread nD τ) none Set.univ (m := pM) (Finset.subset_univ _)) $$ Hp; iintro Hp
  iapply (wp_store 𝒱₀ (c : Thread nD τ) none Set.univ (m := pM) (r := Rect.unit (s := S512x512) ![0, 0] S512x512.size inb_S512x512_S512x512_0_0)
    (Mk := Finset.univ) (Finset.subset_univ _)) $$ Hp; iintro Hp
  rw [write_part]
  -- the three row blocks, each into its send slot
  iapply (wp_load 𝒱₀ (c : Thread nD τ) none Set.univ (m := pM) (Finset.subset_univ _)) $$ Hp; iintro Hp
  iapply (wp_load 𝒱₀ (c : Thread nD τ) none Set.univ (m := sM) (Finset.subset_univ _)) $$ Hs; iintro Hs
  iapply (wp_store 𝒱₀ (c : Thread nD τ) none Set.univ (m := sM) (r := slotRect 0) (Mk := Finset.univ) (Finset.subset_univ _)) $$ Hs; iintro Hs
  iapply (wp_load 𝒱₀ (c : Thread nD τ) none Set.univ (m := pM) (Finset.subset_univ _)) $$ Hp; iintro Hp
  iapply (wp_load 𝒱₀ (c : Thread nD τ) none Set.univ (m := sM) (Finset.subset_univ _)) $$ Hs; iintro Hs
  iapply (wp_store 𝒱₀ (c : Thread nD τ) none Set.univ (m := sM) (r := slotRect 1) (Mk := Finset.univ) (Finset.subset_univ _)) $$ Hs; iintro Hs
  iapply (wp_load 𝒱₀ (c : Thread nD τ) none Set.univ (m := pM) (Finset.subset_univ _)) $$ Hp; iintro Hp
  iapply (wp_load 𝒱₀ (c : Thread nD τ) none Set.univ (m := sM) (Finset.subset_univ _)) $$ Hs; iintro Hs
  iapply (wp_store 𝒱₀ (c : Thread nD τ) none Set.univ (m := sM) (r := slotRect 2) (Mk := Finset.univ) (Finset.subset_univ _)) $$ Hs; iintro Hs
  have hsent : ∀ j : Fin 3, k0_pay3 (pM.view.readAt (Elt F) (Rect.unit (s := S512x512) (k0_off1 c (BitVec.ofNat 32 (1 + j.val))) S128x512.size (k0_off1_inb c j)).toLoadRect
      (k0_pay2 (blkA m c) (blkB m c))) = sent m c (fwd j c) := fun j => congrArg k0_pay3 (read_rows m j c _)
  ihave Hs := (send_filled c s0 _ _ _) $$ Hs
  icases Hs with ⟨%s, %hs, Hs0, Hs1, Hs2⟩
  have hs0 := (hs 0).trans (hsent 0)
  have hs1 := (hs 1).trans (hsent 1)
  have hs2 := (hs 2).trans (hsent 2)
  -- the signals, each handing over a receive slot
  ihave Hr := (Entails.of_eq ((r_split c r0).trans (bigSep_fin3 _))) $$ Hr
  icases Hr with ⟨Hr0, Hr1, Hr2⟩
  rw [show O₀ c = O₁ c + dueB c 2 + dueB c 1 + dueB c 0 from rfl]
  iapply (wp_signal_to m K c _ 0 (dev1_eq c) (O₁ c + dueB c 2 + dueB c 1) W) $$ [HO HtB0 Hr0]
  · isplitr; · iexact HR
    isplitl [HO]; · iexact HO
    isplitl [HtB0]; · iexact HtB0
    iexists r0; iexact Hr0
  iintro HO
  iapply (wp_signal_to m K c _ 1 (dev2_eq c) (O₁ c + dueB c 2) W) $$ [HO HtB1 Hr1]
  · isplitr; · iexact HR
    isplitl [HO]; · iexact HO
    isplitl [HtB1]; · iexact HtB1
    iexists r0; iexact Hr1
  iintro HO
  iapply (wp_signal_to m K c _ 2 (dev3_eq c) (O₁ c) W) $$ [HO HtB2 Hr2]
  · isplitr; · iexact HR
    isplitl [HO]; · iexact HO
    isplitl [HtB2]; · iexact HtB2
    iexists r0; iexact Hr2
  iintro HO
  -- the barrier: the other devices' receive slots
  iapply (Rounds.wp_wait_rest_token 𝒱₀ ER (plan m) (c : Thread nD τ) none (κ := K (c, none))
      (wpE_semWait_eq 𝒱₀ (c : Thread nD τ) none Set.univ) (Set.mem_univ _) () (O := O₁ c) (W := W) (R := 0) (m := 0) (T := ∅)
      (by rw [expect_bar]; decide)) $$ [HcB HO HaB]
  · isplitr; · iapply (inv_at m K (c, none)); iexact HR
    isplitl [HcB]; · iexact HcB
    isplitl [HO]; · iexact HO
    isplitr; · iapply (mayWait_bar c); iexact Hlev
    iexact HaB
  iintro ⟨HO, HaB, -, Hpay⟩
  ihave Hpay := (Entails.of_eq (rest_bar m c)) $$ Hpay
  icases Hpay with ⟨Hn2, Hn1, Hn0⟩
  ihave Hn0 := (Entails.of_eq (show barPay (F := F) c 2 = _ from barPay_rev c 0)) $$ Hn0
  ihave Hn1 := (Entails.of_eq (show barPay (F := F) c 1 = _ from barPay_rev c 1)) $$ Hn1
  ihave Hn2 := (Entails.of_eq (show barPay (F := F) c 0 = _ from barPay_rev c 2)) $$ Hn2
  icases Hn0 with ⟨%n0, Hn0⟩
  icases Hn1 with ⟨%n1, Hn1⟩
  icases Hn2 with ⟨%n2, Hn2⟩
  rw [show O₁ c = 0 + dueR c 2 + dueR c 0 + dueR c 1 from rfl]
  generalize hW1 : insert (SemLoc.reg barS, ()) W = W₁
  -- the copies
  iapply (wp_copy_to m K c _ 1 (dev4_eq c) (src := slotM sM 1) (dst := slotM rM (Fin.rev 1)) rfl rfl (sS := sendS 1) (sR := recvS (Fin.rev 1)) rfl rfl s n1 hs1 (0 + dueR c 2 + dueR c 0) W₁) $$ [Hs1 Hn1 HO HtS1 HtR1]
  · isplitr; · iexact HR
    isplitl [Hs1]; · iexact Hs1
    isplitl [Hn1]; · iexact Hn1
    isplitl [HO]; · iexact HO
    isplitl [HtS1] <;> iassumption
  iintro ⟨HcS1, HO⟩
  iapply (wp_copy_to m K c _ 0 (dev5_eq c) (src := slotM sM 0) (dst := slotM rM (Fin.rev 0)) rfl rfl (sS := sendS 0) (sR := recvS (Fin.rev 0)) rfl rfl s n0 hs0 (0 + dueR c 2) W₁) $$ [Hs0 Hn0 HO HtS0 HtR0]
  · isplitr; · iexact HR
    isplitl [Hs0]; · iexact Hs0
    isplitl [Hn0]; · iexact Hn0
    isplitl [HO]; · iexact HO
    isplitl [HtS0] <;> iassumption
  iintro ⟨HcS0, HO⟩
  iapply (wp_copy_to m K c _ 2 (dev6_eq c) (src := slotM sM 2) (dst := slotM rM (Fin.rev 2)) rfl rfl (sS := sendS 2) (sR := recvS (Fin.rev 2)) rfl rfl s n2 hs2 (0) W₁) $$ [Hs2 Hn2 HO HtS2 HtR2]
  · isplitr; · iexact HR
    isplitl [Hs2]; · iexact Hs2
    isplitl [Hn2]; · iexact Hn2
    isplitl [HO]; · iexact HO
    isplitl [HtS2] <;> iassumption
  iintro ⟨HcS2, HO⟩
  -- the device's own rows
  iapply (wp_load 𝒱₀ (c : Thread nD τ) none Set.univ (m := pM) (Finset.subset_univ _)) $$ Hp; iintro Hp
  rw [show pM.view.readAt (Elt F) (Rect.unit (s := S512x512) (k0_off2 c) S128x512.size (k0_off2_inb c)).toLoadRect (k0_pay2 (blkA m c) (blkB m c)) = _
    from read_own m c _]
  -- the waits for the copies, and the rows that came
  iapply (wp_wait_copy m K c (false, 1) (q := sendS 1) rfl _ (src := slotM rM 1) (dst := slotM sM 1) rfl) $$ [HcS1 HO HaS1]
  · isplitr; · iexact HR
    isplitl [HcS1]; · iexact HcS1
    isplitl [HO] <;> iassumption
  iintro ⟨HO, HaS1, Hs1⟩
  iapply (wp_wait_copy m K c (true, 1) (q := recvS 1) rfl _ (src := slotM sM 1) (dst := slotM rM 1) rfl) $$ [HcR1 HO HaR1]
  · isplitr; · iexact HR
    isplitl [HcR1]; · iexact HcR1
    isplitl [HO] <;> iassumption
  iintro ⟨HO, HaR1, Hr1⟩
  ihave Hr1 := (Entails.of_eq (ownPay_recv m c 1)) $$ Hr1
  icases Hr1 with ⟨%f1, %hf1, Hr1⟩
  iapply (wp_load 𝒱₀ (c : Thread nD τ) none Set.univ (m := rM) (S := slotSet rM 1) (Finset.Subset.refl _)) $$ Hr1; iintro Hr1
  rw [hf1]
  iapply (wp_wait_copy m K c (false, 0) (q := sendS 0) rfl _ (src := slotM rM 2) (dst := slotM sM 0) rfl) $$ [HcS0 HO HaS0]
  · isplitr; · iexact HR
    isplitl [HcS0]; · iexact HcS0
    isplitl [HO] <;> iassumption
  iintro ⟨HO, HaS0, Hs0⟩
  iapply (wp_wait_copy m K c (true, 2) (q := recvS 2) rfl _ (src := slotM sM 0) (dst := slotM rM 2) rfl) $$ [HcR2 HO HaR2]
  · isplitr; · iexact HR
    isplitl [HcR2]; · iexact HcR2
    isplitl [HO] <;> iassumption
  iintro ⟨HO, HaR2, Hr2⟩
  ihave Hr2 := (Entails.of_eq (ownPay_recv m c 2)) $$ Hr2
  icases Hr2 with ⟨%f2, %hf2, Hr2⟩
  iapply (wp_load 𝒱₀ (c : Thread nD τ) none Set.univ (m := rM) (S := slotSet rM 2) (Finset.Subset.refl _)) $$ Hr2; iintro Hr2
  rw [hf2]
  iapply (wp_wait_copy m K c (false, 2) (q := sendS 2) rfl _ (src := slotM rM 0) (dst := slotM sM 2) rfl) $$ [HcS2 HO HaS2]
  · isplitr; · iexact HR
    isplitl [HcS2]; · iexact HcS2
    isplitl [HO] <;> iassumption
  iintro ⟨HO, HaS2, Hs2⟩
  iapply (wp_wait_copy m K c (true, 0) (q := recvS 0) rfl _ (src := slotM sM 2) (dst := slotM rM 0) rfl) $$ [HcR0 HO HaR0]
  · isplitr; · iexact HR
    isplitl [HcR0]; · iexact HcR0
    isplitl [HO] <;> iassumption
  iintro ⟨HO, HaR0, Hr0⟩
  ihave Hr0 := (Entails.of_eq (ownPay_recv m c 0)) $$ Hr0
  icases Hr0 with ⟨%f0, %hf0, Hr0⟩
  iapply (wp_load 𝒱₀ (c : Thread nD τ) none Set.univ (m := rM) (S := slotSet rM 0) (Finset.Subset.refl _)) $$ Hr0; iintro Hr0
  rw [hf0]
  -- the sum
  iapply (wp_load 𝒱₀ (c : Thread nD τ) none Set.univ (m := oM) (Finset.subset_univ _)) $$ Hout; iintro Hout
  iapply (wp_store 𝒱₀ (c : Thread nD τ) none Set.univ (m := oM) (r := Rect.unit (s := S128x512) ![0, 0] S128x512.size inb_S128x512_S128x512_0_0)
    (Mk := Finset.univ) (Finset.subset_univ _)) $$ Hout; iintro Hout
  rw [write_out]
  -- the cells close
  imod (close_all m K c) $$ [HaB HaS0 HaS1 HaS2 HaR0 HaR1 HaR2] with Hz
  · isplitr; · iexact HR
    unfold posAt; rw [bigSep_cid]
    isplitl [HaB]; · iexact HaB
    isplitl [HaS0]; · iexact HaS0
    isplitl [HaS1]; · iexact HaS1
    isplitl [HaS2]; · iexact HaS2
    isplitl [HaR0]; · iexact HaR0
    isplitl [HaR1] <;> iassumption
  rw [wp_ret]; imodintro
  iapply Hk
  unfold bodyPost Φ₁ scratch Pipeline.Dat.owesAt Pipeline.owesWithin
  rw [show (dats m 0 c).owed t0_0.succ = 0 from rfl]
  isplitl [Hp Hs0 Hs1 Hs2 Hr0 Hr1 Hr2 Hz]
  · isplitr [Hz]
    · isplitl [Hp]; · iexists _; iexact Hp
      isplitl [Hs0 Hs1 Hs2]
      · iapply (s_join c s0)
        rw [bigSep_fin3, ← ownPay_send m, ← ownPay_send m, ← ownPay_send m]
        isplitl [Hs0]; · iexact Hs0
        isplitl [Hs1]; · iexact Hs1
        iexact Hs2
      · iapply (r_join c r0)
        rw [bigSep_fin3]; unfold rPts
        isplitl [Hr0]; · iexists _; iexact Hr0
        isplitl [Hr1]; · iexists _; iexact Hr1
        iexists _; iexact Hr2
    · iexact Hz
  isplitl [HO]
  · iexists _
    isplitr; swap; · iexact HO
    ipureintro; exact fun _ _ => Or.inl trivial
  isplitl [Ha]
  · iexists _; isplitr; · (ipureintro; rfl)
    iexact Ha
  isplitl [Hb]
  · iexists _; isplitr; · (ipureintro; rfl)
    iexact Hb
  iexists _; isplitr; · (ipureintro; rfl)
  iexact Hout

/-- A memref of a whole buffer owns it whole. -/
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

/-- What the pipeline gives the body. -/
def bodyGiven (c : Dev nD) : sProp 𝕄 :=
  iprop(Φ₀ m c ∗ (dats m 0 c).owesAt () t0_0.castSucc
    ∗ (∃ d, held c cc0_stg0_0 ((dats m 0 c).before (0 : Fin 3) t0_0 d))
    ∗ (∃ d, held c cc0_stg1_0 ((dats m 0 c).before (1 : Fin 3) t0_0 d))
    ∗ (∃ d, held c cc0_stg2_0 ((dats m 0 c).before (2 : Fin 3) t0_0 d)))

set_option maxRecDepth 4000 in
/-- The pipeline's obligation for the body, at every device. -/
theorem body_obligation (c : Dev nD) : Pipeline.BodyObligation (dats (F := F) m 0 c) (defs₀ (F := F)) 𝒱₀ () Set.univ := fun t => by
  rw [fin_N0 t, bigSep_W0, bigSep_W0]
  simp only [owns_held]
  show bodyGiven m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _)
      cc0_scratch3 cc0_scratch4) (fun _ => bodyPost m c)
  unfold bodyGiven Φ₀ start
  iintro ⟨⟨⟨⟨%K, Hg⟩, Hc, Hl⟩, Hs⟩, Hrest⟩
  iapply (sound_body m K c fun _ => bodyPost m c)
  unfold bodyPre
  isplitr []
  · isplitl [Hg Hc Hl Hs]
    · isplitl [Hg]; · iexact Hg
      isplitl [Hc]; · iexact Hc
      isplitl [Hl]; · iexact Hl
      iexact Hs
    iexact Hrest
  · iintro H; iexact H

end Cert.Exchange

end
-- ==== Proof.Launch.lean ====
/-
The launch: the seven cells of every device allocated together and their duty tokens dealt to the devices that pay them,
the credit each device waits with, and the run of the whole program from any memory.
-/
module

public import proofs.«01_k».proof.Proof.Steps
public import Idealize.ShloMosaic.Lib.Pipeline.Launch
public import Idealize.ShloMosaic.Lib.Pipeline.Kit
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem osem_facts : Pipeline.OwnSemFacts cfg0.spec osem := by decide

theorem csem_injective : Function.Injective csem := by decide

theorem kcell_injective : Function.Injective kcell := fun x y h =>
  Prod.ext (congrArg (fun g : GSem nD τ sig => g.1.1) h) (csem_injective (congrArg Prod.snd h))

/-- All cells of the exchange. -/
def cells : Finset (GSem nD τ sig) := Finset.univ.map ⟨kcell, kcell_injective⟩

/-- The cell and the duty of a token, named by the kind of its cell (0 barrier, 1 send, 2 receive) and by a slot. -/
abbrev tokAt (a : Fin 3 × Fin 3) : SemLoc sig × Fin 3 := match a with
  | (0, j) => (.reg barS, j) | (1, j) => (.dma (sendS j), 0) | (2, j) => (.dma (recvS j), 0)
theorem tokAt_injective : Function.Injective tokAt := by decide

/-- The token as minted at a device. -/
abbrev tokOf (x : Dev nD × (Fin 3 × Fin 3)) : GSem nD τ sig × ℕ × Fin 3 := (((x.1 : Thread nD τ), (tokAt x.2).1), 0, (tokAt x.2).2)
theorem tokOf_injective : Function.Injective tokOf := fun x y h =>
  Prod.ext (congrArg (fun g : GSem nD τ sig × ℕ × Fin 3 => g.1.1.1) h)
    (tokAt_injective (Prod.ext (congrArg (fun g : GSem nD τ sig × ℕ × Fin 3 => g.1.2) h) (congrArg (fun g : GSem nD τ sig × ℕ × Fin 3 => g.2.2) h)))
/-- All tokens of the exchange. -/
def tokens : Finset (GSem nD τ sig × ℕ × Fin 3) := Finset.univ.map ⟨tokOf, tokOf_injective⟩

/-- The ghost element that the launch starts from. -/
def u₀ : UU := (initOf (Pipeline.cells cfgs cellOf_inj) (Pipeline.launchToks cfgs cellOf_inj), initOf cells tokens)

/-- The tokens of a device's own cells. -/
def minted (c : Dev nD) : sProp 𝕄 :=
  iprop((bigSep Finset.univ fun j : Fin 3 => dutyTok ER (barCell c) 0 j)
    ∗ (bigSep Finset.univ fun j : Fin 3 => dutyTok ER (sendCell c j) 0 0)
    ∗ bigSep Finset.univ fun j : Fin 3 => dutyTok ER (recvCell c j) 0 0)

/-- A device's share of the start element: its cells' round states, its positions in them, and its cells' tokens. -/
def G (c : Dev nD) : sProp 𝕄 :=
  iprop((bigSep Finset.univ fun x : Cid => roundState ER (plan m) (kcell (c, x)) 0)
    ∗ (posAt c 0 ∗ bigSep Finset.univ fun x : Cid => reached ER (kcell (c, x)) 0) ∗ minted c)

/-- What the allocation makes of the shares. -/
def G' (c : Dev nD) : sProp 𝕄 := iprop(∃ K, ghost m K c)

omit [FloatOps F] in
theorem over_cells (Φ : GSem nD τ sig → sProp 𝕄) :
    bigSep cells Φ = bigSep Finset.univ fun c : Dev nD => bigSep Finset.univ fun x : Cid => Φ (kcell (c, x)) := by
  unfold cells; rw [bigSep_map, bigSep_univ_prod]; rfl

omit [FloatOps F] in
theorem over_tokens : bigSep tokens (fun x => (dutyTok ER x.1 x.2.1 x.2.2 : sProp 𝕄)) = bigSep Finset.univ fun c : Dev nD => minted c := by
  unfold tokens; rw [bigSep_map, bigSep_univ_prod]
  refine bigSep_congr fun c _ => ?_
  rw [bigSep_univ_prod, bigSep_fin3]; rfl

theorem fund : BI.own (ER (initOf cells tokens)) ⊢ (|==> bigSep Finset.univ (G m) : sProp 𝕄) := by
  unfold G posAt; simp only [bigSep_sep']
  rw [← over_tokens, ← over_cells fun g => roundState ER (plan m) g 0, ← over_cells fun g => atPos ER g 0 ∅ 0, ← over_cells fun g => reached ER g 0]
  iintro HX
  imod (Rounds.fund ER (plan m) cells tokens) $$ HX with ⟨Hst, Hr, Hat, Htok⟩
  imodintro
  isplitl [Hst]; · iexact Hst
  isplitl [Hat Hr]
  · isplitl [Hat] <;> iassumption
  iexact Htok

/-! ## The allocation -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun x : Bool × Fin 3 => semVal (kcell (c, some x)) 0 := by
  unfold Pipeline.ownSems0
  exact bigSep_congr fun x _ => by rcases x with ⟨_ | _, j⟩ <;> rfl
omit [FloatOps F] in
/-- The barrier semaphore is the one that the launch does not allocate. -/
theorem unscopedSems0_eq (c : Dev nD) : (unscopedSems0 c : sProp 𝕄) = semVal (kcell (c, none)) 0 := by
  unfold unscopedSems0; rw [bigSep_eq_bigSepL_of_eq [SemLoc.reg barS] (by decide) (by decide)]; rfl

omit [FloatOps F] in
/-- A device's seven counters are its six own ones and the barrier's. -/
theorem counters (c : Dev nD) : (bigSep Finset.univ fun x : Cid => (semVal (kcell (c, x)) 0 : sProp 𝕄))
    = iprop(unscopedSems0 c ∗ Pipeline.ownSems0 (Ix := Unit) (Name := ℕ) (U := UU) (Lvl := ℕ) (Val := Elt F) (τ := τ) osem c) := by
  rw [ownSems0_eq, unscopedSems0_eq, bigSep_univ_at _ (none : Cid),
    show (Finset.univ : Finset Cid).erase none = Finset.univ.map Function.Embedding.some by decide, bigSep_map]
  rfl

/-- One device's cells become invariants. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cid => iprop(∃ κ : ℕ, cellInv ER (plan m) κ (kcell (c, x))))
          ∗ (posAt c 0 ∗ bigSep Finset.univ fun x : Cid => reached ER (kcell (c, x)) 0) ∗ minted c) := by
  have hinv : iprop((bigSep Finset.univ fun x : Cid => semVal (kcell (c, x)) 0) ∗ bigSep Finset.univ fun x : Cid => roundState ER (plan m) (kcell (c, x)) 0)
      ⊢ (|={Set.univ}=> bigSep Finset.univ fun x : Cid => iprop(∃ κ : ℕ, cellInv ER (plan m) κ (kcell (c, x))) : sProp 𝕄) := by
    rw [← bigSep_sep']
    exact (bigSep_mono fun x _ => (Rounds.body_intro ER (plan m) (kcell (c, x))).trans inv_alloc).trans (bigSep_fupd _ _)
  unfold G
  iintro ⟨Ho, Hu, Hst, Hrest⟩
  imod hinv $$ [Ho Hu Hst] with Hinv
  · isplitr [Hst]
    · rw [counters]; isplitl [Hu] <;> iassumption
    iexact Hst
  imodintro
  isplitl [Hinv] <;> iassumption

omit [FloatOps F] in
/-- The tokens go to the devices that pay with them. -/
theorem deal : (bigSep Finset.univ fun c : Dev nD => (minted c : sProp 𝕄)) ⊢ bigSep Finset.univ fun c : Dev nD => bigSep Finset.univ (toks c) := by
  unfold minted toks; simp only [bigSep_sep']
  rw [← bigSep_univ_prod fun x : Dev nD × Fin 3 => (dutyTok ER (barCell x.1) 0 x.2 : sProp 𝕄),
    bigSep_univ_equiv signalled fun x : Dev nD × Fin 3 => (dutyTok ER (barCell x.1) 0 x.2 : sProp 𝕄),
    ← bigSep_univ_prod fun x : Dev nD × Fin 3 => (dutyTok ER (recvCell x.1 x.2) 0 0 : sProp 𝕄),
    bigSep_univ_equiv landed fun x : Dev nD × Fin 3 => (dutyTok ER (recvCell x.1 x.2) 0 0 : sProp 𝕄),
    ← bigSep_univ_prod fun x : Dev nD × Fin 3 => (dutyTok ER (barCell (fwd x.2 x.1)) 0 x.2 : sProp 𝕄),
    ← bigSep_univ_prod fun x : Dev nD × Fin 3 => (dutyTok ER (recvCell (fwd x.2 x.1) x.2.rev) 0 0 : sProp 𝕄)]
  iintro ⟨HB, HS, HR⟩
  isplitl [HB]; · iexact HB
  isplitl [HR]; · iexact HR
  iexact HS

/-- All devices' invariants gathered under one choice of names, each device left with its own positions and tokens. -/
theorem gather :
    (bigSep Finset.univ fun c : Dev nD => iprop((bigSep Finset.univ fun x : Cid => iprop(∃ κ : ℕ, cellInv ER (plan m) κ (kcell (c, x))))
          ∗ (posAt c 0 ∗ bigSep Finset.univ fun x : Cid => reached ER (kcell (c, x)) 0) ∗ minted c) : sProp 𝕄)
      ⊢ bigSep Finset.univ (G' m) := by
  have hone (K : Dev nD × Cid → ℕ) (c : Dev nD) : iprop(records m K ∗ posAt c 0 ∗ bigSep Finset.univ (toks (F := F) c)) ⊢ G' m c := by
    unfold G' ghost; iintro H; iexists K; iexact H
  have hall (K : Dev nD × Cid → ℕ) : iprop(records m K ∗ bigSep Finset.univ fun c : Dev nD => iprop(posAt c 0 ∗ bigSep Finset.univ (toks (F := F) c)))
      ⊢ bigSep Finset.univ (G' m) :=
    (sep_mono_left (BI.bigSep_of_persistent (Finset.univ : Finset (Dev nD)) (records m K))).trans
      (by rw [← bigSep_sep']; exact bigSep_mono fun c _ => hone K c)
  simp only [bigSep_sep']
  rw [← bigSep_univ_prod fun x : Dev nD × Cid => iprop(∃ κ : ℕ, cellInv ER (plan m) κ (kcell x)),
    ← bigSep_univ_prod fun x : Dev nD × Cid => (reached ER (kcell x) 0 : sProp 𝕄)]
  iintro ⟨HI, ⟨Hat, Hr⟩, Htok⟩
  ihave HK := (BI.bigSep_exists_pi Finset.univ (fun (x : Dev nD × Cid) (κ : ℕ) => (cellInv ER (plan m) κ (kcell x) : sProp 𝕄))) $$ HI
  icases HK with ⟨%K, HI⟩
  iapply (hall K)
  isplitl [HI Hr]
  · unfold records; isplitl [HI] <;> iassumption
  rw [bigSep_sep']
  isplitl [Hat]; · iexact Hat
  iapply (deal (F := F)); iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (gather m))

/-! ## The credit at the start -/

omit [FloatOps F] in
theorem barCell_inj {a b : Dev nD} : barCell a = barCell b ↔ a = b :=
  ⟨fun h => congrArg (fun g : GSem nD τ sig => g.1.1) h, fun h => h ▸ rfl⟩
omit [FloatOps F] in
theorem recvCell_inj {a b : Dev nD} {k l : Fin 3} : recvCell a k = recvCell b l ↔ a = b ∧ k = l := by
  refine ⟨fun h => ⟨congrArg (fun g : GSem nD τ sig => g.1.1) h, ?_⟩, fun h => by rw [h.1, h.2]⟩
  have hs : csem (some (true, k)) = csem (some (true, l)) := congrArg (fun g : GSem nD τ sig => g.2) h
  exact congrArg Prod.snd (Option.some.inj (csem_injective hs))

/-- A receive semaphore is not the barrier's. -/
theorem recv_ne_bar {k : Fin 3} : (.dma (recvS k) : SemLoc sig) ≠ .reg barS := nofun

/-- How much of its dues a device owes a barrier cell, -/
theorem dueB_bar (d c : Dev nD) (j : Fin 3) : dueB d j (barCell c) () = if c = fwd j d then 1 else 0 := by
  unfold dueB; rw [tallyAt_apply]; simp only [barCell_inj, and_true]
theorem dueR_bar (d c : Dev nD) (j : Fin 3) : dueR d j (barCell c) () = 0 := by
  unfold dueR; rw [tallyAt_apply]; exact if_neg fun h => recv_ne_bar.symm (congrArg Prod.snd h.1)
/-- and a receive cell. -/
theorem dueB_recv (d c : Dev nD) (j k : Fin 3) : dueB d j (recvCell c k) () = 0 := by
  unfold dueB; rw [tallyAt_apply]; exact if_neg fun h => recv_ne_bar (congrArg Prod.snd h.1)
theorem dueR_recv (d c : Dev nD) (j k : Fin 3) : dueR d j (recvCell c k) () = (if c = fwd j d ∧ k = j.rev then 1 else 0) * N := by
  unfold dueR; rw [tallyAt_apply]; simp only [recvCell_inj, and_true]; split <;> simp

theorem O₀_bar (d c : Dev nD) : O₀ d (barCell c) () = (if c = fwd 2 d then 1 else 0) + (if c = fwd 1 d then 1 else 0) + (if c = fwd 0 d then 1 else 0) := by
  simp only [O₀, O₁, zero_add, Pi.add_apply, Finsupp.add_apply, dueR_bar, dueB_bar]
theorem O₀_recv (d c : Dev nD) (k : Fin 3) : O₀ d (recvCell c k) ()
    = ((if c = fwd 2 d ∧ k = Fin.rev 2 then 1 else 0) + (if c = fwd 0 d ∧ k = Fin.rev 0 then 1 else 0) + (if c = fwd 1 d ∧ k = Fin.rev 1 then 1 else 0)) * N := by
  simp only [O₀, O₁, zero_add, add_zero, Pi.add_apply, Finsupp.add_apply, dueB_recv, dueR_recv, Nat.add_mul]

/-- All devices together owe a barrier cell three units, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]; simp only [O₀_bar]
  revert c; decide
/-- and a receive cell one landing. -/
theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same]; simp only [O₀_recv]
  rw [← Finset.sum_mul]
  refine (congrArg (· * N) (?_ : _ = 1)).trans (Nat.one_mul N)
  revert c k; decide

/-- The receive semaphores, among the semaphores other than the barrier's. -/
theorem recv_subset : (Finset.univ : Finset (Fin 3)).map ⟨fun k => (.dma (recvS k) : SemLoc sig), by decide⟩ ⊆ Finset.univ.erase (.reg barS) := by
  intro x hx
  obtain ⟨k, -, rfl⟩ := Finset.mem_map.mp hx
  exact Finset.mem_erase.mpr ⟨nofun, Finset.mem_univ _⟩

omit [FloatOps F] in
theorem creds_intro (c : Dev nD) : (Pipeline.launchCred O₀ c : sProp 𝕄) ⊢ creds (F := F) c := by
  unfold Pipeline.launchCred creds
  rw [bigSep_univ_at _ (SemLoc.reg barS), launch_bar]
  refine sep_mono_right ((BI.bigSep_subset recv_subset).trans ?_)
  rw [bigSep_map]
  exact bigSep_mono fun k _ => Entails.of_eq (congrArg cred (launch_recv c k))

/-! ## The run -/

theorem share_full (c : Dev nD) (w : Fin cfg0.W) : (dats m 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [counters]
  iintro ⟨Hr, Hu, Ho⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The contents that a window's array ends with. -/
def finalA (c : Dev nD) (w : Fin cfg0.W) : Buf (Elt F) ((cfg0.win w).arr.view.loc (c : Thread nD τ)) := (dats m 0 c).arrAt w cfg0.N

/-- Every device's three arrays are at their final contents. -/
def Final : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On four devices, for any float values and from any memory with all counters at zero, every weakly fair execution of the
    program terminates, with every device's arrays at their final contents and all counters at zero. -/
theorem run_main : θ_run defs (onTc (τ := τ) (main (F := F))) ⟨m, fun _ => 0, ρ⟩ (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := fun c => (body_obligation m c)) (hne := fun w => by fin_cases w <;> exact Nat.succ_pos _) (harr := arr_whole0) (hstage := stage_whole0)
    (hshare := share_full m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Final.lean ====
/-
The arrays after the run: the arguments as they were, the result the sum that the body stored.
-/
module

public import proofs.«01_k».proof.Proof.Launch
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

omit [FloatOps F] in
/-- A window of the whole array, read, is the array: each argument's -/
theorem read_arg0 (f : main_arg0.ty.Contents (Elt F)) : ((cfg0.win 0).blk t0_0).view.read (Elt F) f = f :=
  Memref.read_access_unit_zero (Elt F) main_arg0 (funext fun a => Nat.zero_mul _) (fun a => le_of_eq ((congrArg (· + _) (Nat.zero_mul _)).trans (Nat.zero_add _))) f
omit [FloatOps F] in
theorem read_arg1 (f : main_arg1.ty.Contents (Elt F)) : ((cfg0.win 1).blk t0_0).view.read (Elt F) f = f :=
  Memref.read_access_unit_zero (Elt F) main_arg1 (funext fun a => Nat.zero_mul _) (fun a => le_of_eq ((congrArg (· + _) (Nat.zero_mul _)).trans (Nat.zero_add _))) f
omit [FloatOps F] in
/-- and the result's. -/
theorem read_res (f : main_v1.ty.Contents (Elt F)) : ((cfg0.win 2).blk t0_0).view.read (Elt F) f = f :=
  Memref.read_access_unit_zero (Elt F) main_v1 (funext fun a => Nat.zero_mul _) (fun a => le_of_eq ((congrArg (· + _) (Nat.zero_mul _)).trans (Nat.zero_add _))) f

/-- The staged blocks are the argument arrays. -/
theorem blkA_eq (c : Dev nD) : blkA m c = m ((c : Thread nD τ).loc main_arg0) := read_arg0 _
theorem blkB_eq (c : Dev nD) : blkB m c = m ((c : Thread nD τ).loc main_arg1) := read_arg1 _

/-- The arguments end as they were, -/
theorem final_arg0 (c : Dev nD) : finalA m c 0 = m ((c : Thread nD τ).loc main_arg0) := (dats m 0 c).arrAt_in (0 : Fin 3) rfl _
theorem final_arg1 (c : Dev nD) : finalA m c 1 = m ((c : Thread nD τ).loc main_arg1) := (dats m 0 c).arrAt_in (1 : Fin 3) rfl _

/-- and the result ends at what the body stored. -/
theorem final_res (c : Dev nD) : finalA m c 2 = outAt m c := by
  have h := (dats m 0 c).read_blk_arrAt_eq_flushed 2 (fun t t' _ _ h => absurd ((fin_N0 t).trans (fin_N0 t').symm) h) cfg0.N t0_0 t0_0.isLt (flush0_2 t0_0)
  rw [read_res] at h
  exact h.trans rfl

/-- The run, read at the program's own arrays: the result of every device, its arguments, and the counters. -/
theorem run_arrays : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h =>
    ⟨fun c => ⟨(h.1 c (2 : Fin 3)).trans (final_res m c), (h.1 c (0 : Fin 3)).trans (final_arg0 m c), (h.1 c (1 : Fin 3)).trans (final_arg1 m c)⟩, h.2⟩)
    (run_main m ρ)

end Cert.Exchange

end
-- ==== Proof.Value.lean ====
/-
The values over the extended reals. A device's partial product is a sum over its own 256 positions of the contraction; the
result on a device adds its rows of all four partial products; and that sum over all 1024 positions is its rows of the
product of the whole arrays.
-/
module

public import proofs.«01_k».proof.Proof.Final
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pipeline.ValueKit.Acc

@[expose] public section

noncomputable section

namespace Cert.Exchange

open Cert.KernelIdeal Cert.KernelIdeal.Gen

open Idealize.ShloMosaic
open Idealize.ShloMosaic.TcCoe
open Idealize.ShloMosaic.ValueIdx
open Idealize.SL.Sem
open scoped BigOperators

variable (m : (ℓ : Loc nD τ sig) → Buf (Elt Ideal) ℓ)

/-! ## The kernel's sum -/

/-- Device `c`'s columns of the first array, -/
def left (c : Dev nD) : S512x256.Idx → EReal := blkA m c

/-- its rows of the second, -/
def right (c : Dev nD) : S256x512.Idx → EReal := blkB m c

/-- and its rows, for device `t`, of the partial product. -/
def piece (c t : Dev nD) : S128x512.Idx → EReal := rows m c t

/-- The product that a device computes, at an index. -/
theorem pay_apply (a : S512x256.Idx → EReal) (b : S256x512.Idx → EReal) (r j : Fin 512) :
    k0_pay2 (F := Ideal) a b (ix2 r j) = ∑ k : Fin 256, a (ix2 r k) * b (ix2 k j) := by
  unfold k0_pay2
  refine (congrFun (shapeCast_self _ _) (ix2 r j)).trans ?_
  rw [shapeCast_self a, shapeCast_self b]
  refine (Ideal.matmul_plain_apply (M := 512) (K := 256) (N := 512) none a b _ r j).trans ?_
  refine (congrArg (· + _) ?_).trans (zero_add _)
  exact Ideal.ofBits_zero_f32

/-- Device `t`'s rows of a partial product, at an index. -/
theorem piece_apply (c t : Dev nD) (i : Fin 128) (j : Fin 512) (h : t.val * 128 + i.val < 512) :
    piece m c t (ix2 i j) = ∑ k : Fin 256, left m c (ix2 ⟨t.val * 128 + i.val, h⟩ k) * right m c (ix2 k j) := by
  refine Eq.trans ?_ (pay_apply (left m c) (right m c) ⟨t.val * 128 + i.val, h⟩ j)
  refine congrArg (k0_pay2 (F := Ideal) (left m c) (right m c)) (funext fun a => Fin.ext ?_)
  match a with
  | ⟨0, _⟩ => show 128 * t.val + 1 * i.val = t.val * 128 + i.val; omega
  | ⟨1, _⟩ => show 0 + 1 * j.val = j.val; omega

/-- What is sent is read as the rows themselves. -/
theorem sent_read (c t : Dev nD) (i : S128x512.Idx) :
    extf .f32 (shapeCast S128x512 (sent m c t) shapeCasts_S1x128x512_S128x512) bitsLt_bf16_f32 i = rows m c t i := by
  unfold sent k0_pay3
  dsimp only
  rw [shapeCast_shapeCast]
  rfl

/-- The result at an index: the rows of the four partial products added. -/
theorem outAt_apply (c : Dev nD) (i : S128x512.Idx) :
    (outAt m c i : EReal) = ((piece m c c i + piece m (fwd 1 c) c i) + piece m (fwd 2 c) c i) + piece m (fwd 0 c) c i := by
  unfold piece
  rw [← sent_read m (fwd 1 c), ← sent_read m (fwd 2 c), ← sent_read m (fwd 0 c)]
  rfl

/-- A sum over the devices from `c` on, in the order in which `c` adds. -/
theorem sum_devices (f : Dev nD → EReal) (c : Dev nD) : ((f c + f (fwd 1 c)) + f (fwd 2 c)) + f (fwd 0 c) = ∑ d : Dev nD, f d := by
  have hu : (Finset.univ : Finset (Dev nD)) = {c, fwd 1 c, fwd 2 c, fwd 0 c} := by revert c; decide
  have h1 : c ∉ ({fwd 1 c, fwd 2 c, fwd 0 c} : Finset (Dev nD)) := by revert c; decide
  have h2 : fwd 1 c ∉ ({fwd 2 c, fwd 0 c} : Finset (Dev nD)) := by revert c; decide
  have h3 : fwd 2 c ∉ ({fwd 0 c} : Finset (Dev nD)) := by revert c; decide
  rw [hu, Finset.sum_insert h1, Finset.sum_insert h2, Finset.sum_insert h3, Finset.sum_singleton, add_assoc, add_assoc]

/-! ## The reference's product -/

/-- The reference's result of whole arrays `A` and `B`. -/
def product (A : Cert.ReferenceIdeal.S512x1024.Idx → EReal) (B : Cert.ReferenceIdeal.S1024x512.Idx → EReal) : S512x512.Idx → EReal :=
  extf (F := Ideal) .f32 (truncf .bf16 (Host.dotGeneral Cert.ReferenceIdeal.dot_S512x1024_S1024x512_S512x512_1_0_0_1_n_n none
    (extf .f32 A bitsLt_bf16_f32) (extf .f32 B bitsLt_bf16_f32))
    bitsLt_bf16_f32) bitsLt_bf16_f32

theorem product_apply (A : Cert.ReferenceIdeal.S512x1024.Idx → EReal) (B : Cert.ReferenceIdeal.S1024x512.Idx → EReal) (r j : Fin 512) :
    product A B (ix2 r j) = ∑ k : Fin 1024, A (ix2 r k) * B (ix2 k j) :=
  StackMember.dotGeneral_plain_apply (m := 512) (n := 512) (k := 1024) (φ₁ := .f32) (φ₂ := .f32) none A B r j

/-! ## The two agree -/

/-- Four stretches of 256 positions are the 1024 positions of the contraction. -/
theorem sum_stretches (f : Fin 1024 → EReal) :
    ∑ d : Fin 4, ∑ k : Fin 256, f ⟨d.val * 256 + k.val, by omega⟩ = ∑ l : Fin 1024, f l := by
  have h := Fin.sum_univ_univ_mul_add 4 256 fun l => if h : l < 1024 then f ⟨l, h⟩ else 0
  refine Eq.trans (Finset.sum_congr rfl fun d _ => Finset.sum_congr rfl fun k _ => ?_) (h.trans (Finset.sum_congr rfl fun l _ => ?_))
  · have hk : d.val * 256 + k.val < 1024 := by omega
    simp only [hk, dif_pos]
  · exact dif_pos l.isLt

/-- From devices that hold column blocks of `A` and row blocks of `B`, every device's result is its row block of the
    reference's product. -/
theorem outAt_eq (A : Cert.ReferenceIdeal.S512x1024.Idx → EReal) (B : Cert.ReferenceIdeal.S1024x512.Idx → EReal)
    (hA : ∀ c : Dev nD, m ((c.tc : Thread nD τ).loc main_arg0) = Layout.block ⟨2, ![512, 256]⟩ ⟨2, ![512, 1024]⟩ 1 4 c A)
    (hB : ∀ c : Dev nD, m ((c.tc : Thread nD τ).loc main_arg1) = Layout.block ⟨2, ![256, 512]⟩ ⟨2, ![1024, 512]⟩ 0 4 c B) (c : Dev nD) :
    outAt m c = Layout.block ⟨2, ![128, 512]⟩ ⟨2, ![512, 512]⟩ 0 4 c (product A B) := by
  funext x
  obtain ⟨i, j, rfl⟩ : ∃ (i : Fin 128) (j : Fin 512), x = ix2 i j := ⟨x 0, x 1, eq_ix2 x⟩
  have hc : c.val < 4 := c.isLt
  have hr : c.val * 128 + i.val < 512 := by omega
  have key : ∑ d : Dev nD, piece m d c (ix2 i j) = product A B (ix2 ⟨c.val * 128 + i.val, hr⟩ j) := by
    rw [product_apply, ← sum_stretches]
    refine Finset.sum_congr rfl fun d _ => ?_
    rw [piece_apply m d c i j hr]
    refine Finset.sum_congr rfl fun k _ => ?_
    unfold left right
    rw [blkA_eq, blkB_eq, hA d, hB d]
    exact congrArg₂ (α := EReal) (β := EReal) (γ := EReal) (· * ·) (congrArg A (Shape.idx_ext₂ rfl rfl)) (congrArg B (Shape.idx_ext₂ rfl rfl))
  exact ((outAt_apply m c _).trans (sum_devices (fun d => piece m d c (ix2 i j)) c)).trans
    (key.trans (congrArg (product A B) (Shape.idx_ext₂ rfl rfl)))

end Cert.Exchange

end
-- ==== Proof.lean ====
/-
The certificate: the three frames, the idealization (which rewrites nothing) and the agreement of the two programs over
the extended reals, assembled from the kernel's run (Proof/Final.lean), the reference's run and the values
(Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Value
public import Idealize.ShloMosaic.Adequacy
public import Idealize.ShloMosaic.Init

@[expose] public section

noncomputable section

namespace Cert.Proof

open Idealize.ShloMosaic Idealize.SL.Sem

/-- The two printed programs have the same text: their kernels' bodies agree, -/
theorem bodies_same : Cert.Kernel.defs₀ (F := Bits) = Cert.KernelIdeal.defs₀ (F := Bits) := by
  refine congrArg Defs.onTc (funext fun l => funext fun x => ?_)
  match l, x with
  | ⟨0, _⟩, (_, _) => rfl

/-- and with them the tables of bodies. -/
theorem tables_same : Cert.Kernel.defs (F := Bits) = Cert.KernelIdeal.defs (F := Bits) := by
  unfold Cert.Kernel.defs Cert.KernelIdeal.defs
  rw [bodies_same]
  rfl

/-- The kernel as printed terminates without a fault, keeps its arguments and leaves every counter at zero. -/
theorem frame_kernel : Cert.quiescent_Kernel := by
  intro m ρ _
  rw [tables_same]
  exact (θ_run Cert.KernelIdeal.defs _ _).mono (fun _ h => ⟨fun c => (h.1 c).2, h.2⟩) (Cert.Exchange.run_arrays (F := Bits) m ρ)

/-- So does its idealization, -/
theorem frame_ideal : Cert.quiescent_KernelIdeal := fun m ρ _ =>
  (θ_run Cert.KernelIdeal.defs _ _).mono (fun _ h => ⟨fun c => (h.1 c).2, h.2⟩) (Cert.Exchange.run_arrays (F := Ideal) m ρ)

/-- and the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Every device's result is its block of the reference's product. -/
theorem algebraic : Cert.algebraic_KernelIdeal_ReferenceIdeal := fun m ρ m' ρ' _ agree =>
  ⟨Cert.Exchange.product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.Exchange.outAt_eq m _ _ (fun d => (agree d).1) (fun d => (agree d).2) c), (h.1 c).2⟩)
      (Cert.Exchange.run_arrays (F := Ideal) m ρ),
    (θ_run Cert.ReferenceIdeal.defs _ _).mono (fun _ h => h 0) (Cert.ReferenceIdeal.Value.run m' ρ')⟩

/-- The claims together. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
